-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S100000x128 : Shape := ⟨2, ![100000, 128]⟩
abbrev S1600000 : Shape := ⟨1, ![1600000]⟩
abbrev S8x2 : Shape := ⟨2, ![8, 2]⟩
abbrev S2x2 : Shape := ⟨2, ![2, 2]⟩
abbrev S100000x132 : Shape := ⟨2, ![100000, 132]⟩
abbrev S2x10000x128 : Shape := ⟨3, ![2, 10000, 128]⟩
abbrev S2x10000x132 : Shape := ⟨3, ![2, 10000, 132]⟩
abbrev S2x5 : Shape := ⟨2, ![2, 5]⟩
abbrev S1x1 : Shape := ⟨2, ![1, 1]⟩
abbrev S_ : Shape := ⟨0, ![]⟩
abbrev S1x2000x128 : Shape := ⟨3, ![1, 2000, 128]⟩
abbrev S2000x128 : Shape := ⟨2, ![2000, 128]⟩
abbrev S2000x132 : Shape := ⟨2, ![2000, 132]⟩
abbrev S1x2000x132 : Shape := ⟨3, ![1, 2000, 132]⟩
abbrev S1x10000x128 : Shape := ⟨3, ![1, 10000, 128]⟩
abbrev S10000x128 : Shape := ⟨2, ![10000, 128]⟩
abbrev S1x2 : Shape := ⟨2, ![1, 2]⟩
abbrev S1x4 : Shape := ⟨2, ![1, 4]⟩
abbrev S10000x4 : Shape := ⟨2, ![10000, 4]⟩
abbrev S1x10000x4 : Shape := ⟨3, ![1, 10000, 4]⟩
abbrev S1x8x2 : Shape := ⟨3, ![1, 8, 2]⟩

abbrev nBuf : Space → Nat
  | .hbm => 5
  | .vmem => 4
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S8x2, .f32⟩
  | .hbm, ⟨3, _⟩ => ⟨S2x2, .f32⟩
  | .hbm, ⟨4, _⟩ => ⟨S100000x132, .f32⟩
  | .local _ .vmem, ⟨0, _⟩ => ⟨S8x2, .f32⟩
  | .local _ .vmem, ⟨1, _⟩ => ⟨S2x2, .f32⟩
  | .local _ .vmem, ⟨2, _⟩ => ⟨S2x10000x128, .f32⟩
  | .local _ .vmem, ⟨3, _⟩ => ⟨S2x10000x132, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c1_i32_2 : BitVec 32 := 1#32
  let v6 : BitVec 32 := Scalar.addi arg0 c1_i32_2
  let c10_i32 : BitVec 32 := 10#32
  let v7 : BitVec 1 := Scalar.cmpi .slt v6 c10_i32
  let v8 : BitVec 32 := Scalar.extui v7
  let c0_i32_3 : BitVec 32 := 0#32
  let v9 : BitVec 1 := Scalar.cmpi .ne v8 c0_i32_3
  v9

def k0_off1 (i : grid0.Coords) : Fin 2 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c0_i32_101 : BitVec 32 := 0#32
  ![v2.toNat, 0]
def k0_off2 (i : grid0.Coords) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c0_i32_102 : BitVec 32 := 0#32
  let c0_i32_103 : BitVec 32 := 0#32
  ![v2.toNat, 0, 0]
def k0_off3 (i : grid0.Coords) (c0_i32_100 : BitVec 32) : Fin 2 → Nat :=
  let arg0 : BitVec 32 := BitVec.ofNat 32 (i 0).val
  let c1_i32_98 : BitVec 32 := 1#32
  let v158 : BitVec 32 := Scalar.addi arg0 c1_i32_98
  let c10000_i32_99 : BitVec 32 := 10000#32
  let v159 : BitVec 32 := Scalar.muli v158 c10000_i32_99
  let v160 : BitVec 32 := Scalar.addi v159 c0_i32_100
  let c0_i32_104 : BitVec 32 := 0#32
  ![v160.toNat, 0]
def k0_off4 (i : grid0.Coords) : Fin 2 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c1_i32_108 : BitVec 32 := 1#32
  ![v2.toNat, 1]
def k0_off5 (i : grid0.Coords) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c2000_i32_109 : BitVec 32 := 2000#32
  let c0_i32_110 : BitVec 32 := 0#32
  ![v2.toNat, 2000, 0]
def k0_off6 (i : grid0.Coords) : Fin 2 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c2_i32_115 : BitVec 32 := 2#32
  ![v2.toNat, 2]
def k0_off7 (i : grid0.Coords) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c4000_i32_116 : BitVec 32 := 4000#32
  let c0_i32_117 : BitVec 32 := 0#32
  ![v2.toNat, 4000, 0]
def k0_off8 (i : grid0.Coords) : Fin 2 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c3_i32_122 : BitVec 32 := 3#32
  ![v2.toNat, 3]
def k0_off9 (i : grid0.Coords) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c6000_i32_123 : BitVec 32 := 6000#32
  let c0_i32_124 : BitVec 32 := 0#32
  ![v2.toNat, 6000, 0]
def k0_off10 (i : grid0.Coords) : Fin 2 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c4_i32_129 : BitVec 32 := 4#32
  ![v2.toNat, 4]
def k0_off11 (i : grid0.Coords) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c8000_i32_130 : BitVec 32 := 8000#32
  let c0_i32_131 : BitVec 32 := 0#32
  ![v2.toNat, 8000, 0]
def k0_off12 (i : grid0.Coords) : Fin 2 → Nat :=
  let arg0 : BitVec 32 := BitVec.ofNat 32 (i 0).val
  let c2_i32 : BitVec 32 := 2#32
  let v0 : BitVec 32 := Scalar.remsi arg0 c2_i32
  let c0_i32_5 : BitVec 32 := 0#32
  ![v0.toNat, 0]
def k0_off13 (i : grid0.Coords) : Fin 3 → Nat :=
  let arg0 : BitVec 32 := BitVec.ofNat 32 (i 0).val
  let c2_i32 : BitVec 32 := 2#32
  let v0 : BitVec 32 := Scalar.remsi arg0 c2_i32
  let c0_i32_6 : BitVec 32 := 0#32
  let c0_i32_7 : BitVec 32 := 0#32
  ![v0.toNat, 0, 0]
def k0_off14 (i : grid0.Coords) (c0_i32_4 : BitVec 32) : Fin 2 → Nat :=
  let arg0 : BitVec 32 := BitVec.ofNat 32 (i 0).val
  let c10000_i32 : BitVec 32 := 10000#32
  let v10 : BitVec 32 := Scalar.muli arg0 c10000_i32
  let v11 : BitVec 32 := Scalar.addi v10 c0_i32_4
  let c0_i32_8 : BitVec 32 := 0#32
  ![v11.toNat, 0]
def k0_off15 (i : grid0.Coords) : Fin 2 → Nat :=
  let arg0 : BitVec 32 := BitVec.ofNat 32 (i 0).val
  let c2_i32 : BitVec 32 := 2#32
  let v0 : BitVec 32 := Scalar.remsi arg0 c2_i32
  let c1_i32_10 : BitVec 32 := 1#32
  ![v0.toNat, 1]
def k0_off16 (i : grid0.Coords) : Fin 3 → Nat :=
  let arg0 : BitVec 32 := BitVec.ofNat 32 (i 0).val
  let c2_i32 : BitVec 32 := 2#32
  let v0 : BitVec 32 := Scalar.remsi arg0 c2_i32
  let c2000_i32_11 : BitVec 32 := 2000#32
  let c0_i32_12 : BitVec 32 := 0#32
  ![v0.toNat, 2000, 0]
def k0_off17 (i : grid0.Coords) : Fin 2 → Nat :=
  let arg0 : BitVec 32 := BitVec.ofNat 32 (i 0).val
  let c2_i32 : BitVec 32 := 2#32
  let v0 : BitVec 32 := Scalar.remsi arg0 c2_i32
  let c2_i32_15 : BitVec 32 := 2#32
  ![v0.toNat, 2]
def k0_off18 (i : grid0.Coords) : Fin 3 → Nat :=
  let arg0 : BitVec 32 := BitVec.ofNat 32 (i 0).val
  let c2_i32 : BitVec 32 := 2#32
  let v0 : BitVec 32 := Scalar.remsi arg0 c2_i32
  let c4000_i32_16 : BitVec 32 := 4000#32
  let c0_i32_17 : BitVec 32 := 0#32
  ![v0.toNat, 4000, 0]
def k0_off19 (i : grid0.Coords) : Fin 2 → Nat :=
  let arg0 : BitVec 32 := BitVec.ofNat 32 (i 0).val
  let c2_i32 : BitVec 32 := 2#32
  let v0 : BitVec 32 := Scalar.remsi arg0 c2_i32
  let c3_i32 : BitVec 32 := 3#32
  ![v0.toNat, 3]
def k0_off20 (i : grid0.Coords) : Fin 3 → Nat :=
  let arg0 : BitVec 32 := BitVec.ofNat 32 (i 0).val
  let c2_i32 : BitVec 32 := 2#32
  let v0 : BitVec 32 := Scalar.remsi arg0 c2_i32
  let c6000_i32_20 : BitVec 32 := 6000#32
  let c0_i32_21 : BitVec 32 := 0#32
  ![v0.toNat, 6000, 0]
def k0_off21 (i : grid0.Coords) : Fin 2 → Nat :=
  let arg0 : BitVec 32 := BitVec.ofNat 32 (i 0).val
  let c2_i32 : BitVec 32 := 2#32
  let v0 : BitVec 32 := Scalar.remsi arg0 c2_i32
  let c4_i32 : BitVec 32 := 4#32
  ![v0.toNat, 4]
def k0_off22 (i : grid0.Coords) : Fin 3 → Nat :=
  let arg0 : BitVec 32 := BitVec.ofNat 32 (i 0).val
  let c2_i32 : BitVec 32 := 2#32
  let v0 : BitVec 32 := Scalar.remsi arg0 c2_i32
  let c8000_i32_24 : BitVec 32 := 8000#32
  let c0_i32_25 : BitVec 32 := 0#32
  ![v0.toNat, 8000, 0]
def k0_cond3 (i : grid0.Coords) : BitVec 1 :=
  let arg0 : BitVec 32 := BitVec.ofNat 32 (i 0).val
  let c2_i32_27 : BitVec 32 := 2#32
  let v45 : BitVec 1 := Scalar.cmpi .sge arg0 c2_i32_27
  let v46 : BitVec 32 := Scalar.extui v45
  let c0_i32_28 : BitVec 32 := 0#32
  let v47 : BitVec 1 := Scalar.cmpi .ne v46 c0_i32_28
  v47

def k0_off23 (i : grid0.Coords) : Fin 2 → Nat :=
  let arg0 : BitVec 32 := BitVec.ofNat 32 (i 0).val
  let c2_i32 : BitVec 32 := 2#32
  let v0 : BitVec 32 := Scalar.remsi arg0 c2_i32
  let c0_i32_101 : BitVec 32 := 0#32
  ![v0.toNat, 0]
def k0_off24 (i : grid0.Coords) (c0_i32_100 : BitVec 32) : Fin 2 → Nat :=
  let arg0 : BitVec 32 := BitVec.ofNat 32 (i 0).val
  let c2_i32_98 : BitVec 32 := 2#32
  let v158 : BitVec 32 := Scalar.subi arg0 c2_i32_98
  let c10000_i32_99 : BitVec 32 := 10000#32
  let v159 : BitVec 32 := Scalar.muli v158 c10000_i32_99
  let v160 : BitVec 32 := Scalar.addi v159 c0_i32_100
  let c0_i32_102 : BitVec 32 := 0#32
  ![v160.toNat, 0]
def k0_off25 (i : grid0.Coords) : Fin 3 → Nat :=
  let arg0 : BitVec 32 := BitVec.ofNat 32 (i 0).val
  let c2_i32 : BitVec 32 := 2#32
  let v0 : BitVec 32 := Scalar.remsi arg0 c2_i32
  let c0_i32_103 : BitVec 32 := 0#32
  let c0_i32_104 : BitVec 32 := 0#32
  ![v0.toNat, 0, 0]
def k0_off26 (i : grid0.Coords) : Fin 2 → Nat :=
  let arg0 : BitVec 32 := BitVec.ofNat 32 (i 0).val
  let c2_i32 : BitVec 32 := 2#32
  let v0 : BitVec 32 := Scalar.remsi arg0 c2_i32
  let c1_i32_108 : BitVec 32 := 1#32
  ![v0.toNat, 1]
def k0_off27 (i : grid0.Coords) : Fin 3 → Nat :=
  let arg0 : BitVec 32 := BitVec.ofNat 32 (i 0).val
  let c2_i32 : BitVec 32 := 2#32
  let v0 : BitVec 32 := Scalar.remsi arg0 c2_i32
  let c2000_i32_110 : BitVec 32 := 2000#32
  let c0_i32_111 : BitVec 32 := 0#32
  ![v0.toNat, 2000, 0]
def k0_off28 (i : grid0.Coords) : Fin 2 → Nat :=
  let arg0 : BitVec 32 := BitVec.ofNat 32 (i 0).val
  let c2_i32 : BitVec 32 := 2#32
  let v0 : BitVec 32 := Scalar.remsi arg0 c2_i32
  let c2_i32_115 : BitVec 32 := 2#32
  ![v0.toNat, 2]
def k0_off29 (i : grid0.Coords) : Fin 3 → Nat :=
  let arg0 : BitVec 32 := BitVec.ofNat 32 (i 0).val
  let c2_i32 : BitVec 32 := 2#32
  let v0 : BitVec 32 := Scalar.remsi arg0 c2_i32
  let c4000_i32_117 : BitVec 32 := 4000#32
  let c0_i32_118 : BitVec 32 := 0#32
  ![v0.toNat, 4000, 0]
def k0_off30 (i : grid0.Coords) : Fin 2 → Nat :=
  let arg0 : BitVec 32 := BitVec.ofNat 32 (i 0).val
  let c2_i32 : BitVec 32 := 2#32
  let v0 : BitVec 32 := Scalar.remsi arg0 c2_i32
  let c3_i32_122 : BitVec 32 := 3#32
  ![v0.toNat, 3]
def k0_off31 (i : grid0.Coords) : Fin 3 → Nat :=
  let arg0 : BitVec 32 := BitVec.ofNat 32 (i 0).val
  let c2_i32 : BitVec 32 := 2#32
  let v0 : BitVec 32 := Scalar.remsi arg0 c2_i32
  let c6000_i32_124 : BitVec 32 := 6000#32
  let c0_i32_125 : BitVec 32 := 0#32
  ![v0.toNat, 6000, 0]
def k0_off32 (i : grid0.Coords) : Fin 2 → Nat :=
  let arg0 : BitVec 32 := BitVec.ofNat 32 (i 0).val
  let c2_i32 : BitVec 32 := 2#32
  let v0 : BitVec 32 := Scalar.remsi arg0 c2_i32
  let c4_i32_129 : BitVec 32 := 4#32
  ![v0.toNat, 4]
def k0_off33 (i : grid0.Coords) : Fin 3 → Nat :=
  let arg0 : BitVec 32 := BitVec.ofNat 32 (i 0).val
  let c2_i32 : BitVec 32 := 2#32
  let v0 : BitVec 32 := Scalar.remsi arg0 c2_i32
  let c8000_i32_131 : BitVec 32 := 8000#32
  let c0_i32_132 : BitVec 32 := 0#32
  ![v0.toNat, 8000, 0]
def k0_off34 (i : grid0.Coords) : Fin 3 → Nat :=
  let arg0 : BitVec 32 := BitVec.ofNat 32 (i 0).val
  let c2_i32 : BitVec 32 := 2#32
  let v0 : BitVec 32 := Scalar.remsi arg0 c2_i32
  let v48 : Index := Scalar.indexCast v0
  let c0 : Index := 0#32
  let c0_29 : Index := 0#32
  ![v48.toNat, 0, 0]
def k0_off35 (i : grid0.Coords) : Fin 3 → Nat :=
  let arg0 : BitVec 32 := BitVec.ofNat 32 (i 0).val
  let c2_i32 : BitVec 32 := 2#32
  let v0 : BitVec 32 := Scalar.remsi arg0 c2_i32
  let v51 : Index := Scalar.indexCast v0
  let c0_30 : Index := 0#32
  let c0_31 : Index := 0#32
  ![v51.toNat, 0, 0]
def k0_off36 (i : grid0.Coords) : Fin 3 → Nat :=
  let arg0 : BitVec 32 := BitVec.ofNat 32 (i 0).val
  let c2_i32 : BitVec 32 := 2#32
  let v0 : BitVec 32 := Scalar.remsi arg0 c2_i32
  let v74 : Index := Scalar.indexCast v0
  let c0_42 : Index := 0#32
  let c128 : Index := 128#32
  ![v74.toNat, 0, 128]
def k0_cond4 (i : grid0.Coords) : BitVec 1 :=
  let arg0 : BitVec 32 := BitVec.ofNat 32 (i 0).val
  let c10000_i32_32 : BitVec 32 := 10000#32
  let v55 : BitVec 32 := Scalar.muli arg0 c10000_i32_32
  let c1000_i32 : BitVec 32 := 1000#32
  let v78 : BitVec 1 := Scalar.cmpi .sle v55 c1000_i32
  let c10000_i32_43 : BitVec 32 := 10000#32
  let v79 : BitVec 32 := Scalar.addi v55 c10000_i32_43
  let c1000_i32_44 : BitVec 32 := 1000#32
  let v80 : BitVec 1 := Scalar.cmpi .sgt v79 c1000_i32_44
  let v81 : BitVec 1 := Scalar.andi v78 v80
  let v82 : BitVec 32 := Scalar.extui v81
  let c0_i32_45 : BitVec 32 := 0#32
  let v83 : BitVec 1 := Scalar.cmpi .ne v82 c0_i32_45
  v83

def k0_off37 (i : grid0.Coords) : Fin 3 → Nat :=
  let arg0 : BitVec 32 := BitVec.ofNat 32 (i 0).val
  let c2_i32 : BitVec 32 := 2#32
  let v0 : BitVec 32 := Scalar.remsi arg0 c2_i32
  let v162 : Index := Scalar.indexCast v0
  let c1000_i32_100 : BitVec 32 := 1000#32
  let c10000_i32_32 : BitVec 32 := 10000#32
  let v55 : BitVec 32 := Scalar.muli arg0 c10000_i32_32
  let v161 : BitVec 32 := Scalar.subi c1000_i32_100 v55
  let v163 : Index := Scalar.indexCast v161
  let c128_101 : Index := 128#32
  ![v162.toNat, v163.toNat, 128]
def k0_cond5 (i : grid0.Coords) : BitVec 1 :=
  let arg0 : BitVec 32 := BitVec.ofNat 32 (i 0).val
  let c10000_i32_32 : BitVec 32 := 10000#32
  let v55 : BitVec 32 := Scalar.muli arg0 c10000_i32_32
  let c2000_i32_46 : BitVec 32 := 2000#32
  let v84 : BitVec 1 := Scalar.cmpi .sle v55 c2000_i32_46
  let c10000_i32_47 : BitVec 32 := 10000#32
  let v85 : BitVec 32 := Scalar.addi v55 c10000_i32_47
  let c2000_i32_48 : BitVec 32 := 2000#32
  let v86 : BitVec 1 := Scalar.cmpi .sgt v85 c2000_i32_48
  let v87 : BitVec 1 := Scalar.andi v84 v86
  let v88 : BitVec 32 := Scalar.extui v87
  let c0_i32_49 : BitVec 32 := 0#32
  let v89 : BitVec 1 := Scalar.cmpi .ne v88 c0_i32_49
  v89

def k0_off38 (i : grid0.Coords) : Fin 3 → Nat :=
  let arg0 : BitVec 32 := BitVec.ofNat 32 (i 0).val
  let c2_i32 : BitVec 32 := 2#32
  let v0 : BitVec 32 := Scalar.remsi arg0 c2_i32
  let v162 : Index := Scalar.indexCast v0
  let c2000_i32_99 : BitVec 32 := 2000#32
  let c10000_i32_32 : BitVec 32 := 10000#32
  let v55 : BitVec 32 := Scalar.muli arg0 c10000_i32_32
  let v161 : BitVec 32 := Scalar.subi c2000_i32_99 v55
  let v163 : Index := Scalar.indexCast v161
  let c128_100 : Index := 128#32
  ![v162.toNat, v163.toNat, 128]
def k0_cond6 (i : grid0.Coords) : BitVec 1 :=
  let arg0 : BitVec 32 := BitVec.ofNat 32 (i 0).val
  let c10000_i32_32 : BitVec 32 := 10000#32
  let v55 : BitVec 32 := Scalar.muli arg0 c10000_i32_32
  let c3000_i32 : BitVec 32 := 3000#32
  let v90 : BitVec 1 := Scalar.cmpi .sle v55 c3000_i32
  let c10000_i32_50 : BitVec 32 := 10000#32
  let v91 : BitVec 32 := Scalar.addi v55 c10000_i32_50
  let c3000_i32_51 : BitVec 32 := 3000#32
  let v92 : BitVec 1 := Scalar.cmpi .sgt v91 c3000_i32_51
  let v93 : BitVec 1 := Scalar.andi v90 v92
  let v94 : BitVec 32 := Scalar.extui v93
  let c0_i32_52 : BitVec 32 := 0#32
  let v95 : BitVec 1 := Scalar.cmpi .ne v94 c0_i32_52
  v95

def k0_off39 (i : grid0.Coords) : Fin 3 → Nat :=
  let arg0 : BitVec 32 := BitVec.ofNat 32 (i 0).val
  let c2_i32 : BitVec 32 := 2#32
  let v0 : BitVec 32 := Scalar.remsi arg0 c2_i32
  let v162 : Index := Scalar.indexCast v0
  let c3000_i32_99 : BitVec 32 := 3000#32
  let c10000_i32_32 : BitVec 32 := 10000#32
  let v55 : BitVec 32 := Scalar.muli arg0 c10000_i32_32
  let v161 : BitVec 32 := Scalar.subi c3000_i32_99 v55
  let v163 : Index := Scalar.indexCast v161
  let c128_100 : Index := 128#32
  ![v162.toNat, v163.toNat, 128]
def k0_cond7 (i : grid0.Coords) : BitVec 1 :=
  let arg0 : BitVec 32 := BitVec.ofNat 32 (i 0).val
  let c10000_i32_32 : BitVec 32 := 10000#32
  let v55 : BitVec 32 := Scalar.muli arg0 c10000_i32_32
  let c4000_i32_53 : BitVec 32 := 4000#32
  let v96 : BitVec 1 := Scalar.cmpi .sle v55 c4000_i32_53
  let c10000_i32_54 : BitVec 32 := 10000#32
  let v97 : BitVec 32 := Scalar.addi v55 c10000_i32_54
  let c4000_i32_55 : BitVec 32 := 4000#32
  let v98 : BitVec 1 := Scalar.cmpi .sgt v97 c4000_i32_55
  let v99 : BitVec 1 := Scalar.andi v96 v98
  let v100 : BitVec 32 := Scalar.extui v99
  let c0_i32_56 : BitVec 32 := 0#32
  let v101 : BitVec 1 := Scalar.cmpi .ne v100 c0_i32_56
  v101

def k0_off40 (i : grid0.Coords) : Fin 3 → Nat :=
  let arg0 : BitVec 32 := BitVec.ofNat 32 (i 0).val
  let c2_i32 : BitVec 32 := 2#32
  let v0 : BitVec 32 := Scalar.remsi arg0 c2_i32
  let v162 : Index := Scalar.indexCast v0
  let c4000_i32_99 : BitVec 32 := 4000#32
  let c10000_i32_32 : BitVec 32 := 10000#32
  let v55 : BitVec 32 := Scalar.muli arg0 c10000_i32_32
  let v161 : BitVec 32 := Scalar.subi c4000_i32_99 v55
  let v163 : Index := Scalar.indexCast v161
  let c128_100 : Index := 128#32
  ![v162.toNat, v163.toNat, 128]
def k0_cond8 (i : grid0.Coords) : BitVec 1 :=
  let arg0 : BitVec 32 := BitVec.ofNat 32 (i 0).val
  let c10000_i32_32 : BitVec 32 := 10000#32
  let v55 : BitVec 32 := Scalar.muli arg0 c10000_i32_32
  let c5000_i32 : BitVec 32 := 5000#32
  let v102 : BitVec 1 := Scalar.cmpi .sle v55 c5000_i32
  let c10000_i32_57 : BitVec 32 := 10000#32
  let v103 : BitVec 32 := Scalar.addi v55 c10000_i32_57
  let c5000_i32_58 : BitVec 32 := 5000#32
  let v104 : BitVec 1 := Scalar.cmpi .sgt v103 c5000_i32_58
  let v105 : BitVec 1 := Scalar.andi v102 v104
  let v106 : BitVec 32 := Scalar.extui v105
  let c0_i32_59 : BitVec 32 := 0#32
  let v107 : BitVec 1 := Scalar.cmpi .ne v106 c0_i32_59
  v107

def k0_off41 (i : grid0.Coords) : Fin 3 → Nat :=
  let arg0 : BitVec 32 := BitVec.ofNat 32 (i 0).val
  let c2_i32 : BitVec 32 := 2#32
  let v0 : BitVec 32 := Scalar.remsi arg0 c2_i32
  let v162 : Index := Scalar.indexCast v0
  let c5000_i32_99 : BitVec 32 := 5000#32
  let c10000_i32_32 : BitVec 32 := 10000#32
  let v55 : BitVec 32 := Scalar.muli arg0 c10000_i32_32
  let v161 : BitVec 32 := Scalar.subi c5000_i32_99 v55
  let v163 : Index := Scalar.indexCast v161
  let c128_100 : Index := 128#32
  ![v162.toNat, v163.toNat, 128]
def k0_cond9 (i : grid0.Coords) : BitVec 1 :=
  let arg0 : BitVec 32 := BitVec.ofNat 32 (i 0).val
  let c10000_i32_32 : BitVec 32 := 10000#32
  let v55 : BitVec 32 := Scalar.muli arg0 c10000_i32_32
  let c6000_i32_60 : BitVec 32 := 6000#32
  let v108 : BitVec 1 := Scalar.cmpi .sle v55 c6000_i32_60
  let c10000_i32_61 : BitVec 32 := 10000#32
  let v109 : BitVec 32 := Scalar.addi v55 c10000_i32_61
  let c6000_i32_62 : BitVec 32 := 6000#32
  let v110 : BitVec 1 := Scalar.cmpi .sgt v109 c6000_i32_62
  let v111 : BitVec 1 := Scalar.andi v108 v110
  let v112 : BitVec 32 := Scalar.extui v111
  let c0_i32_63 : BitVec 32 := 0#32
  let v113 : BitVec 1 := Scalar.cmpi .ne v112 c0_i32_63
  v113

def k0_off42 (i : grid0.Coords) : Fin 3 → Nat :=
  let arg0 : BitVec 32 := BitVec.ofNat 32 (i 0).val
  let c2_i32 : BitVec 32 := 2#32
  let v0 : BitVec 32 := Scalar.remsi arg0 c2_i32
  let v162 : Index := Scalar.indexCast v0
  let c6000_i32_99 : BitVec 32 := 6000#32
  let c10000_i32_32 : BitVec 32 := 10000#32
  let v55 : BitVec 32 := Scalar.muli arg0 c10000_i32_32
  let v161 : BitVec 32 := Scalar.subi c6000_i32_99 v55
  let v163 : Index := Scalar.indexCast v161
  let c128_100 : Index := 128#32
  ![v162.toNat, v163.toNat, 128]
def k0_cond10 (i : grid0.Coords) : BitVec 1 :=
  let arg0 : BitVec 32 := BitVec.ofNat 32 (i 0).val
  let c10000_i32_32 : BitVec 32 := 10000#32
  let v55 : BitVec 32 := Scalar.muli arg0 c10000_i32_32
  let c7000_i32 : BitVec 32 := 7000#32
  let v114 : BitVec 1 := Scalar.cmpi .sle v55 c7000_i32
  let c10000_i32_64 : BitVec 32 := 10000#32
  let v115 : BitVec 32 := Scalar.addi v55 c10000_i32_64
  let c7000_i32_65 : BitVec 32 := 7000#32
  let v116 : BitVec 1 := Scalar.cmpi .sgt v115 c7000_i32_65
  let v117 : BitVec 1 := Scalar.andi v114 v116
  let v118 : BitVec 32 := Scalar.extui v117
  let c0_i32_66 : BitVec 32 := 0#32
  let v119 : BitVec 1 := Scalar.cmpi .ne v118 c0_i32_66
  v119

def k0_off43 (i : grid0.Coords) : Fin 3 → Nat :=
  let arg0 : BitVec 32 := BitVec.ofNat 32 (i 0).val
  let c2_i32 : BitVec 32 := 2#32
  let v0 : BitVec 32 := Scalar.remsi arg0 c2_i32
  let v162 : Index := Scalar.indexCast v0
  let c7000_i32_99 : BitVec 32 := 7000#32
  let c10000_i32_32 : BitVec 32 := 10000#32
  let v55 : BitVec 32 := Scalar.muli arg0 c10000_i32_32
  let v161 : BitVec 32 := Scalar.subi c7000_i32_99 v55
  let v163 : Index := Scalar.indexCast v161
  let c128_100 : Index := 128#32
  ![v162.toNat, v163.toNat, 128]
def k0_off44 (i : grid0.Coords) (c0_i32_68 : BitVec 32) : Fin 2 → Nat :=
  let arg0 : BitVec 32 := BitVec.ofNat 32 (i 0).val
  let c10000_i32_67 : BitVec 32 := 10000#32
  let v120 : BitVec 32 := Scalar.muli arg0 c10000_i32_67
  let v121 : BitVec 32 := Scalar.addi v120 c0_i32_68
  let c0_i32_70 : BitVec 32 := 0#32
  ![v121.toNat, 0]
def k0_off45 (i : grid0.Coords) : Fin 3 → Nat :=
  let arg0 : BitVec 32 := BitVec.ofNat 32 (i 0).val
  let c2_i32 : BitVec 32 := 2#32
  let v0 : BitVec 32 := Scalar.remsi arg0 c2_i32
  let c0_i32_71 : BitVec 32 := 0#32
  let c0_i32_72 : BitVec 32 := 0#32
  ![v0.toNat, 0, 0]
def k0_off46 (i : grid0.Coords) : Fin 3 → Nat :=
  let arg0 : BitVec 32 := BitVec.ofNat 32 (i 0).val
  let c2_i32 : BitVec 32 := 2#32
  let v0 : BitVec 32 := Scalar.remsi arg0 c2_i32
  let c2000_i32_77 : BitVec 32 := 2000#32
  let c0_i32_78 : BitVec 32 := 0#32
  ![v0.toNat, 2000, 0]
def k0_off47 (i : grid0.Coords) : Fin 3 → Nat :=
  let arg0 : BitVec 32 := BitVec.ofNat 32 (i 0).val
  let c2_i32 : BitVec 32 := 2#32
  let v0 : BitVec 32 := Scalar.remsi arg0 c2_i32
  let c4000_i32_83 : BitVec 32 := 4000#32
  let c0_i32_84 : BitVec 32 := 0#32
  ![v0.toNat, 4000, 0]
def k0_off48 (i : grid0.Coords) : Fin 3 → Nat :=
  let arg0 : BitVec 32 := BitVec.ofNat 32 (i 0).val
  let c2_i32 : BitVec 32 := 2#32
  let v0 : BitVec 32 := Scalar.remsi arg0 c2_i32
  let c6000_i32_89 : BitVec 32 := 6000#32
  let c0_i32_90 : BitVec 32 := 0#32
  ![v0.toNat, 6000, 0]
def k0_off49 (i : grid0.Coords) : Fin 3 → Nat :=
  let arg0 : BitVec 32 := BitVec.ofNat 32 (i 0).val
  let c2_i32 : BitVec 32 := 2#32
  let v0 : BitVec 32 := Scalar.remsi arg0 c2_i32
  let c8000_i32_95 : BitVec 32 := 8000#32
  let c0_i32_96 : BitVec 32 := 0#32
  ![v0.toNat, 8000, 0]
def k0_cond11 (i : grid0.Coords) : BitVec 1 :=
  let arg0 : BitVec 32 := BitVec.ofNat 32 (i 0).val
  let c9_i32 : BitVec 32 := 9#32
  let v155 : BitVec 1 := Scalar.cmpi .eq arg0 c9_i32
  let v156 : BitVec 32 := Scalar.extui v155
  let c0_i32_97 : BitVec 32 := 0#32
  let v157 : BitVec 1 := Scalar.cmpi .ne v156 c0_i32_97
  v157

def k0_off50 (i : grid0.Coords) : Fin 2 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c0_i32_101 : BitVec 32 := 0#32
  ![v2.toNat, 0]
def k0_off51 (i : grid0.Coords) (c0_i32_100 : BitVec 32) : Fin 2 → Nat :=
  let arg0 : BitVec 32 := BitVec.ofNat 32 (i 0).val
  let c1_i32_98 : BitVec 32 := 1#32
  let v158 : BitVec 32 := Scalar.subi arg0 c1_i32_98
  let c10000_i32_99 : BitVec 32 := 10000#32
  let v159 : BitVec 32 := Scalar.muli v158 c10000_i32_99
  let v160 : BitVec 32 := Scalar.addi v159 c0_i32_100
  let c0_i32_102 : BitVec 32 := 0#32
  ![v160.toNat, 0]
def k0_off52 (i : grid0.Coords) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c0_i32_103 : BitVec 32 := 0#32
  let c0_i32_104 : BitVec 32 := 0#32
  ![v2.toNat, 0, 0]
def k0_off53 (i : grid0.Coords) : Fin 2 → Nat :=
  let arg0 : BitVec 32 := BitVec.ofNat 32 (i 0).val
  let c2_i32 : BitVec 32 := 2#32
  let v0 : BitVec 32 := Scalar.remsi arg0 c2_i32
  let c0_i32_107 : BitVec 32 := 0#32
  ![v0.toNat, 0]
def k0_off54 (i : grid0.Coords) (c0_i32_106 : BitVec 32) : Fin 2 → Nat :=
  let arg0 : BitVec 32 := BitVec.ofNat 32 (i 0).val
  let c10000_i32_105 : BitVec 32 := 10000#32
  let v166 : BitVec 32 := Scalar.muli arg0 c10000_i32_105
  let v167 : BitVec 32 := Scalar.addi v166 c0_i32_106
  let c0_i32_108 : BitVec 32 := 0#32
  ![v167.toNat, 0]
def k0_off55 (i : grid0.Coords) : Fin 3 → Nat :=
  let arg0 : BitVec 32 := BitVec.ofNat 32 (i 0).val
  let c2_i32 : BitVec 32 := 2#32
  let v0 : BitVec 32 := Scalar.remsi arg0 c2_i32
  let c0_i32_109 : BitVec 32 := 0#32
  let c0_i32_110 : BitVec 32 := 0#32
  ![v0.toNat, 0, 0]
def k0_off56 (i : grid0.Coords) : Fin 2 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c1_i32_114 : BitVec 32 := 1#32
  ![v2.toNat, 1]
def k0_off57 (i : grid0.Coords) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c2000_i32_116 : BitVec 32 := 2000#32
  let c0_i32_117 : BitVec 32 := 0#32
  ![v2.toNat, 2000, 0]
def k0_off58 (i : grid0.Coords) : Fin 2 → Nat :=
  let arg0 : BitVec 32 := BitVec.ofNat 32 (i 0).val
  let c2_i32 : BitVec 32 := 2#32
  let v0 : BitVec 32 := Scalar.remsi arg0 c2_i32
  let c1_i32_120 : BitVec 32 := 1#32
  ![v0.toNat, 1]
def k0_off59 (i : grid0.Coords) : Fin 3 → Nat :=
  let arg0 : BitVec 32 := BitVec.ofNat 32 (i 0).val
  let c2_i32 : BitVec 32 := 2#32
  let v0 : BitVec 32 := Scalar.remsi arg0 c2_i32
  let c2000_i32_122 : BitVec 32 := 2000#32
  let c0_i32_123 : BitVec 32 := 0#32
  ![v0.toNat, 2000, 0]
def k0_off60 (i : grid0.Coords) : Fin 2 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c2_i32_127 : BitVec 32 := 2#32
  ![v2.toNat, 2]
def k0_off61 (i : grid0.Coords) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c4000_i32_129 : BitVec 32 := 4000#32
  let c0_i32_130 : BitVec 32 := 0#32
  ![v2.toNat, 4000, 0]
def k0_off62 (i : grid0.Coords) : Fin 2 → Nat :=
  let arg0 : BitVec 32 := BitVec.ofNat 32 (i 0).val
  let c2_i32 : BitVec 32 := 2#32
  let v0 : BitVec 32 := Scalar.remsi arg0 c2_i32
  let c2_i32_133 : BitVec 32 := 2#32
  ![v0.toNat, 2]
def k0_off63 (i : grid0.Coords) : Fin 3 → Nat :=
  let arg0 : BitVec 32 := BitVec.ofNat 32 (i 0).val
  let c2_i32 : BitVec 32 := 2#32
  let v0 : BitVec 32 := Scalar.remsi arg0 c2_i32
  let c4000_i32_135 : BitVec 32 := 4000#32
  let c0_i32_136 : BitVec 32 := 0#32
  ![v0.toNat, 4000, 0]
def k0_off64 (i : grid0.Coords) : Fin 2 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c3_i32_140 : BitVec 32 := 3#32
  ![v2.toNat, 3]
def k0_off65 (i : grid0.Coords) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c6000_i32_142 : BitVec 32 := 6000#32
  let c0_i32_143 : BitVec 32 := 0#32
  ![v2.toNat, 6000, 0]
def k0_off66 (i : grid0.Coords) : Fin 2 → Nat :=
  let arg0 : BitVec 32 := BitVec.ofNat 32 (i 0).val
  let c2_i32 : BitVec 32 := 2#32
  let v0 : BitVec 32 := Scalar.remsi arg0 c2_i32
  let c3_i32_146 : BitVec 32 := 3#32
  ![v0.toNat, 3]
def k0_off67 (i : grid0.Coords) : Fin 3 → Nat :=
  let arg0 : BitVec 32 := BitVec.ofNat 32 (i 0).val
  let c2_i32 : BitVec 32 := 2#32
  let v0 : BitVec 32 := Scalar.remsi arg0 c2_i32
  let c6000_i32_148 : BitVec 32 := 6000#32
  let c0_i32_149 : BitVec 32 := 0#32
  ![v0.toNat, 6000, 0]
def k0_off68 (i : grid0.Coords) : Fin 2 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c4_i32_153 : BitVec 32 := 4#32
  ![v2.toNat, 4]
def k0_off69 (i : grid0.Coords) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c8000_i32_155 : BitVec 32 := 8000#32
  let c0_i32_156 : BitVec 32 := 0#32
  ![v2.toNat, 8000, 0]
def k0_off70 (i : grid0.Coords) : Fin 2 → Nat :=
  let arg0 : BitVec 32 := BitVec.ofNat 32 (i 0).val
  let c2_i32 : BitVec 32 := 2#32
  let v0 : BitVec 32 := Scalar.remsi arg0 c2_i32
  let c4_i32_159 : BitVec 32 := 4#32
  ![v0.toNat, 4]
def k0_off71 (i : grid0.Coords) : Fin 3 → Nat :=
  let arg0 : BitVec 32 := BitVec.ofNat 32 (i 0).val
  let c2_i32 : BitVec 32 := 2#32
  let v0 : BitVec 32 := Scalar.remsi arg0 c2_i32
  let c8000_i32_161 : BitVec 32 := 8000#32
  let c0_i32_162 : BitVec 32 := 0#32
  ![v0.toNat, 8000, 0]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S100000x128 : Shape := ⟨2, ![100000, 128]⟩
abbrev S1600000 : Shape := ⟨1, ![1600000]⟩
abbrev S8x2 : Shape := ⟨2, ![8, 2]⟩
abbrev S2x2 : Shape := ⟨2, ![2, 2]⟩
abbrev S100000 : Shape := ⟨1, ![100000]⟩
abbrev S_ : Shape := ⟨0, ![]⟩
abbrev S100000x1 : Shape := ⟨2, ![100000, 1]⟩
abbrev S1 : Shape := ⟨1, ![1]⟩
abbrev S1x1 : Shape := ⟨2, ![1, 1]⟩
abbrev S100000x2 : Shape := ⟨2, ![100000, 2]⟩
abbrev S100000x132 : Shape := ⟨2, ![100000, 132]⟩

abbrev nBuf : Space → Nat
  | .hbm => 125
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S8x2, .f32⟩
  | .hbm, ⟨3, _⟩ => ⟨S2x2, .f32⟩
  | .hbm, ⟨4, _⟩ => ⟨S100000, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S100000, .i32⟩
  | .hbm, ⟨12, _⟩ => ⟨S100000, .i32⟩
  | .hbm, ⟨13, _⟩ => ⟨S_, .i32⟩
  | .hbm, ⟨14, _⟩ => ⟨S100000, .i32⟩
  | .hbm, ⟨15, _⟩ => ⟨S100000, .i1⟩
  | .hbm, ⟨16, _⟩ => ⟨S_, .i32⟩
  | .hbm, ⟨17, _⟩ => ⟨S100000, .i32⟩
  | .hbm, ⟨18, _⟩ => ⟨S100000, .i1⟩
  | .hbm, ⟨19, _⟩ => ⟨S_, .i32⟩
  | .hbm, ⟨20, _⟩ => ⟨S_, .i1⟩
  | .hbm, ⟨21, _⟩ => ⟨S100000, .i1⟩
  | .hbm, ⟨22, _⟩ => ⟨S100000, .i1⟩
  | .hbm, ⟨23, _⟩ => ⟨S100000, .i1⟩
  | .hbm, ⟨24, _⟩ => ⟨S100000, .i32⟩
  | .hbm, ⟨25, _⟩ => ⟨S100000, .i32⟩
  | .hbm, ⟨26, _⟩ => ⟨S100000, .i32⟩
  | .hbm, ⟨27, _⟩ => ⟨S_, .i32⟩
  | .hbm, ⟨28, _⟩ => ⟨S100000, .i32⟩
  | .hbm, ⟨29, _⟩ => ⟨S100000, .i1⟩
  | .hbm, ⟨30, _⟩ => ⟨S_, .i32⟩
  | .hbm, ⟨31, _⟩ => ⟨S100000, .i32⟩
  | .hbm, ⟨32, _⟩ => ⟨S100000, .i32⟩
  | .hbm, ⟨33, _⟩ => ⟨S100000, .i32⟩
  | .hbm, ⟨34, _⟩ => ⟨S100000x1, .i32⟩
  | .hbm, ⟨35, _⟩ => ⟨S1, .i32⟩
  | .hbm, ⟨36, _⟩ => ⟨S_, .i32⟩
  | .hbm, ⟨37, _⟩ => ⟨S100000x1, .i32⟩
  | .hbm, ⟨38, _⟩ => ⟨S100000x1, .i1⟩
  | .hbm, ⟨39, _⟩ => ⟨S1x1, .i32⟩
  | .hbm, ⟨40, _⟩ => ⟨S100000x1, .i32⟩
  | .hbm, ⟨41, _⟩ => ⟨S100000x1, .i1⟩
  | .hbm, ⟨42, _⟩ => ⟨S100000x1, .i1⟩
  | .hbm, ⟨43, _⟩ => ⟨S_, .i1⟩
  | .hbm, ⟨44, _⟩ => ⟨S100000, .i1⟩
  | .hbm, ⟨45, _⟩ => ⟨S100000x2, .f32⟩
  | .hbm, ⟨46, _⟩ => ⟨S100000x2, .i1⟩
  | .hbm, ⟨47, _⟩ => ⟨S_, .f32⟩
  | .hbm, ⟨48, _⟩ => ⟨S100000x2, .f32⟩
  | .hbm, ⟨49, _⟩ => ⟨S100000x2, .f32⟩
  | .hbm, ⟨50, _⟩ => ⟨S_, .i32⟩
  | .hbm, ⟨51, _⟩ => ⟨S100000, .i32⟩
  | .hbm, ⟨52, _⟩ => ⟨S100000, .i1⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i1⟩
  | .hbm, ⟨57, _⟩ => ⟨S_, .i32⟩
  | .hbm, ⟨58, _⟩ => ⟨S_, .i32⟩
  | .hbm, ⟨59, _⟩ => ⟨S100000, .i32⟩
  | .hbm, ⟨60, _⟩ => ⟨S100000, .i32⟩
  | .hbm, ⟨61, _⟩ => ⟨S_, .i32⟩
  | .hbm, ⟨62, _⟩ => ⟨S100000, .i32⟩
  | .hbm, ⟨63, _⟩ => ⟨S100000, .i1⟩
  | .hbm, ⟨64, _⟩ => ⟨S_, .i32⟩
  | .hbm, ⟨65, _⟩ => ⟨S100000, .i32⟩
  | .hbm, ⟨66, _⟩ => ⟨S100000, .i1⟩
  | .hbm, ⟨67, _⟩ => ⟨S_, .i32⟩
  | .hbm, ⟨68, _⟩ => ⟨S_, .i1⟩
  | .hbm, ⟨69, _⟩ => ⟨S100000, .i1⟩
  | .hbm, ⟨70, _⟩ => ⟨S100000, .i1⟩
  | .hbm, ⟨71, _⟩ => ⟨S100000, .i1⟩
  | .hbm, ⟨72, _⟩ => ⟨S100000, .i32⟩
  | .hbm, ⟨73, _⟩ => ⟨S100000, .i32⟩
  | .hbm, ⟨74, _⟩ => ⟨S100000, .i32⟩
  | .hbm, ⟨75, _⟩ => ⟨S_, .i32⟩
  | .hbm, ⟨76, _⟩ => ⟨S100000, .i32⟩
  | .hbm, ⟨77, _⟩ => ⟨S100000, .i1⟩
  | .hbm, ⟨78, _⟩ => ⟨S100000, .i1⟩
  | .hbm, ⟨79, _⟩ => ⟨S_, .i32⟩
  | .hbm, ⟨80, _⟩ => ⟨S_, .i32⟩
  | .hbm, ⟨81, _⟩ => ⟨S100000, .i32⟩
  | .hbm, ⟨82, _⟩ => ⟨S100000, .i32⟩
  | .hbm, ⟨83, _⟩ => ⟨S100000, .i32⟩
  | .hbm, ⟨84, _⟩ => ⟨S_, .i32⟩
  | .hbm, ⟨85, _⟩ => ⟨S100000, .i32⟩
  | .hbm, ⟨86, _⟩ => ⟨S100000, .i1⟩
  | .hbm, ⟨87, _⟩ => ⟨S100000, .i32⟩
  | .hbm, ⟨88, _⟩ => ⟨S100000, .i32⟩
  | .hbm, ⟨89, _⟩ => ⟨S_, .i32⟩
  | .hbm, ⟨90, _⟩ => ⟨S100000, .i32⟩
  | .hbm, ⟨91, _⟩ => ⟨S100000, .i1⟩
  | .hbm, ⟨92, _⟩ => ⟨S100000, .i1⟩
  | .hbm, ⟨93, _⟩ => ⟨S_, .i32⟩
  | .hbm, ⟨94, _⟩ => ⟨S100000, .i32⟩
  | .hbm, ⟨95, _⟩ => ⟨S100000, .i32⟩
  | .hbm, ⟨96, _⟩ => ⟨S100000, .i32⟩
  | .hbm, ⟨97, _⟩ => ⟨S_, .i32⟩
  | .hbm, ⟨98, _⟩ => ⟨S_, .i32⟩
  | .hbm, ⟨99, _⟩ => ⟨S100000, .i32⟩
  | .hbm, ⟨100, _⟩ => ⟨S100000, .i32⟩
  | .hbm, ⟨101, _⟩ => ⟨S_, .i32⟩
  | .hbm, ⟨102, _⟩ => ⟨S100000, .i32⟩
  | .hbm, ⟨103, _⟩ => ⟨S100000, .i1⟩
  | .hbm, ⟨104, _⟩ => ⟨S_, .i32⟩
  | .hbm, ⟨105, _⟩ => ⟨S100000, .i32⟩
  | .hbm, ⟨106, _⟩ => ⟨S100000, .i32⟩
  | .hbm, ⟨107, _⟩ => ⟨S100000, .i32⟩
  | .hbm, ⟨108, _⟩ => ⟨S100000x1, .i32⟩
  | .hbm, ⟨109, _⟩ => ⟨S1, .i32⟩
  | .hbm, ⟨110, _⟩ => ⟨S_, .i32⟩
  | .hbm, ⟨111, _⟩ => ⟨S100000x1, .i32⟩
  | .hbm, ⟨112, _⟩ => ⟨S100000x1, .i1⟩
  | .hbm, ⟨113, _⟩ => ⟨S1x1, .i32⟩
  | .hbm, ⟨114, _⟩ => ⟨S100000x1, .i32⟩
  | .hbm, ⟨115, _⟩ => ⟨S100000x1, .i1⟩
  | .hbm, ⟨116, _⟩ => ⟨S100000x1, .i1⟩
  | .hbm, ⟨117, _⟩ => ⟨S_, .i1⟩
  | .hbm, ⟨118, _⟩ => ⟨S100000, .i1⟩
  | .hbm, ⟨119, _⟩ => ⟨S100000x2, .f32⟩
  | .hbm, ⟨120, _⟩ => ⟨S100000x2, .i1⟩
  | .hbm, ⟨121, _⟩ => ⟨S_, .f32⟩
  | .hbm, ⟨122, _⟩ => ⟨S100000x2, .f32⟩
  | .hbm, ⟨123, _⟩ => ⟨S100000x2, .f32⟩
  | .hbm, ⟨124, _⟩ => ⟨S100000x132, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_v5 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_c_3 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v1 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v2 : Ref sig .tc := ⟨.hbm, 49, rfl⟩
abbrev main_c_0 : Ref sig .tc := ⟨.hbm, 50, rfl⟩
abbrev main_v3 : Ref sig .tc := ⟨.hbm, 51, rfl⟩
abbrev main_v4 : Ref sig .tc := ⟨.hbm, 52, rfl⟩
abbrev main_c_1 : Ref sig .tc := ⟨.hbm, 53, rfl⟩
abbrev main_call2_v0 : Ref sig .tc := ⟨.hbm, 54, rfl⟩
abbrev main_call2_c : Ref sig .tc := ⟨.hbm, 55, rfl⟩
abbrev main_call2_v1 : Ref sig .tc := ⟨.hbm, 56, rfl⟩
abbrev main_call2_c_0 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_c_1 : Ref sig .tc := ⟨.hbm, 61, rfl⟩
abbrev main_call2_v5 : Ref sig .tc := ⟨.hbm, 62, rfl⟩
abbrev main_call2_v6 : Ref sig .tc := ⟨.hbm, 63, rfl⟩
abbrev main_call2_c_2 : Ref sig .tc := ⟨.hbm, 64, rfl⟩
abbrev main_call2_v7 : Ref sig .tc := ⟨.hbm, 65, rfl⟩
abbrev main_call2_v8 : Ref sig .tc := ⟨.hbm, 66, rfl⟩
abbrev main_call2_c_3 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_v12 : Ref sig .tc := ⟨.hbm, 71, rfl⟩
abbrev main_call2_v13 : Ref sig .tc := ⟨.hbm, 72, rfl⟩
abbrev main_call2_v14 : Ref sig .tc := ⟨.hbm, 73, rfl⟩
abbrev main_v5 : Ref sig .tc := ⟨.hbm, 74, rfl⟩
abbrev main_c_2 : Ref sig .tc := ⟨.hbm, 75, rfl⟩
abbrev main_v6 : Ref sig .tc := ⟨.hbm, 76, rfl⟩
abbrev main_v7 : Ref sig .tc := ⟨.hbm, 77, rfl⟩
abbrev main_v8 : Ref sig .tc := ⟨.hbm, 78, rfl⟩
abbrev main_c_3 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_v5 : Ref sig .tc := ⟨.hbm, 85, rfl⟩
abbrev main_call3_v6 : Ref sig .tc := ⟨.hbm, 86, rfl⟩
abbrev main_call3_v7 : Ref sig .tc := ⟨.hbm, 87, rfl⟩
abbrev main_call3_v8 : Ref sig .tc := ⟨.hbm, 88, rfl⟩
abbrev main_call3_c : Ref sig .tc := ⟨.hbm, 89, rfl⟩
abbrev main_call3_v9 : Ref sig .tc := ⟨.hbm, 90, rfl⟩
abbrev main_call3_v10 : Ref sig .tc := ⟨.hbm, 91, rfl⟩
abbrev main_call3_v11 : Ref sig .tc := ⟨.hbm, 92, rfl⟩
abbrev main_call3_c_0 : Ref sig .tc := ⟨.hbm, 93, rfl⟩
abbrev main_call3_v12 : Ref sig .tc := ⟨.hbm, 94, rfl⟩
abbrev main_call3_v13 : Ref sig .tc := ⟨.hbm, 95, rfl⟩
abbrev main_v9 : Ref sig .tc := ⟨.hbm, 96, rfl⟩
abbrev main_c_4 : Ref sig .tc := ⟨.hbm, 97, rfl⟩
abbrev main_call4_v0 : Ref sig .tc := ⟨.hbm, 98, rfl⟩
abbrev main_call4_v1 : Ref sig .tc := ⟨.hbm, 99, rfl⟩
abbrev main_v10 : Ref sig .tc := ⟨.hbm, 100, rfl⟩
abbrev main_call5_c : Ref sig .tc := ⟨.hbm, 101, rfl⟩
abbrev main_call5_v0 : Ref sig .tc := ⟨.hbm, 102, rfl⟩
abbrev main_call5_v1 : Ref sig .tc := ⟨.hbm, 103, rfl⟩
abbrev main_call5_c_0 : Ref sig .tc := ⟨.hbm, 104, rfl⟩
abbrev main_call5_v2 : Ref sig .tc := ⟨.hbm, 105, rfl⟩
abbrev main_call5_v3 : Ref sig .tc := ⟨.hbm, 106, rfl⟩
abbrev main_call5_v4 : Ref sig .tc := ⟨.hbm, 107, rfl⟩
abbrev main_call5_v5 : Ref sig .tc := ⟨.hbm, 108, rfl⟩
abbrev main_call5_c_1 : Ref sig .tc := ⟨.hbm, 109, rfl⟩
abbrev main_call5_c_2 : Ref sig .tc := ⟨.hbm, 110, rfl⟩
abbrev main_call5_v6 : Ref sig .tc := ⟨.hbm, 111, rfl⟩
abbrev main_call5_v7 : Ref sig .tc := ⟨.hbm, 112, rfl⟩
abbrev main_call5_v8 : Ref sig .tc := ⟨.hbm, 113, rfl⟩
abbrev main_call5_v9 : Ref sig .tc := ⟨.hbm, 114, rfl⟩
abbrev main_call5_v10 : Ref sig .tc := ⟨.hbm, 115, rfl⟩
abbrev main_call5_v11 : Ref sig .tc := ⟨.hbm, 116, rfl⟩
abbrev main_call5_c_3 : Ref sig .tc := ⟨.hbm, 117, rfl⟩
abbrev main_call5_v12 : Ref sig .tc := ⟨.hbm, 118, rfl⟩
abbrev main_call5_v13 : Ref sig .tc := ⟨.hbm, 119, rfl⟩
abbrev main_call5_v14 : Ref sig .tc := ⟨.hbm, 120, rfl⟩
abbrev main_call5_cst : Ref sig .tc := ⟨.hbm, 121, rfl⟩
abbrev main_call5_v15 : Ref sig .tc := ⟨.hbm, 122, rfl⟩
abbrev main_v11 : Ref sig .tc := ⟨.hbm, 123, rfl⟩
abbrev main_v12 : Ref sig .tc := ⟨.hbm, 124, rfl⟩

abbrev nD : Nat := 1
abbrev τ : Topo := Topo.v7x

variable {F : FTy → Type} [FloatOps F]
-- ==== Proof.KernelIdeal.Names.lean ====
/- The stripes, slots, blocks and semaphore cells of the kernel's two rings, each under one name, and the equations
   that bring every access the kernel spells with its own offsets under these names. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameValue
public import Idealize.ShloMosaic.Lib.Ring
public import Idealize.ShloMosaic.Lib.Ring.WriteBehind
public import Idealize.ShloMosaic.Lib.Tactic
public import Idealize.ShloMosaic.Lib.WordCmp
public import Idealize.ShloMosaic.Lib.Pointwise.Index

@[expose] public section

set_option maxRecDepth 16384
set_option synthInstance.maxSize 4096

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The slot and the block of a grid point -/

/-- The slot block `k` is in: the two slots take turns. -/
@[irreducible] def slotAt (k : ℕ) : Fin 2 := Ring.sl 2 k
/-- The `k`-th block. -/
@[irreducible] def blockAt (k : ℕ) : Fin 10 := Ring.bk 10 k
theorem slotAt_eq (k : ℕ) : slotAt k = Ring.sl 2 k := by unfold slotAt; rfl
theorem blockAt_eq (k : ℕ) : blockAt k = Ring.bk 10 k := by unfold blockAt; rfl
theorem blockAt_val (k : ℕ) : (blockAt k).val = k % 10 := by rw [blockAt_eq]; rfl

/-! ## Conditions -/

/-- The first point's condition, under which the first block's copies are started. -/
abbrev condBoot (i : grid0.Coords) : Prop :=
  (Scalar.cmpi .ne (Scalar.extui (Scalar.cmpi .eq (BitVec.ofNat 32 (i 0).val) 0#32)) 0#32) = 1#1
theorem condBoot_iff : ∀ t : Fin grid0.N, condBoot (grid0.coords t) ↔ t.val = 0 := by decide +kernel
theorem cond2_iff : ∀ t : Fin grid0.N, k0_cond2 (grid0.coords t) = 1#1 ↔ t.val < 9 := by decide +kernel
theorem cond3_iff : ∀ t : Fin grid0.N, k0_cond3 (grid0.coords t) = 1#1 ↔ 2 ≤ t.val := by decide +kernel
theorem cond4_iff : ∀ t : Fin grid0.N, k0_cond4 (grid0.coords t) = 1#1 ↔ t.val = 0 := by decide +kernel
theorem cond5_iff : ∀ t : Fin grid0.N, k0_cond5 (grid0.coords t) = 1#1 ↔ t.val = 0 := by decide +kernel
theorem cond6_iff : ∀ t : Fin grid0.N, k0_cond6 (grid0.coords t) = 1#1 ↔ t.val = 0 := by decide +kernel
theorem cond7_iff : ∀ t : Fin grid0.N, k0_cond7 (grid0.coords t) = 1#1 ↔ t.val = 0 := by decide +kernel
theorem cond8_iff : ∀ t : Fin grid0.N, k0_cond8 (grid0.coords t) = 1#1 ↔ t.val = 0 := by decide +kernel
theorem cond9_iff : ∀ t : Fin grid0.N, k0_cond9 (grid0.coords t) = 1#1 ↔ t.val = 0 := by decide +kernel
theorem cond10_iff : ∀ t : Fin grid0.N, k0_cond10 (grid0.coords t) = 1#1 ↔ t.val = 0 := by decide +kernel
theorem cond11_iff : ∀ t : Fin grid0.N, k0_cond11 (grid0.coords t) = 1#1 ↔ t.val = 9 := by decide +kernel

/-! ## Names -/

/-- The scratch the input is read into and the scratch the result is built in, whole. -/
abbrev inM : Memref sig .tc .vmem S2x10000x128 .f32 := Memref.whole cc0_scratch0
abbrev outM : Memref sig .tc .vmem S2x10000x132 .f32 := Memref.whole cc0_scratch1
/-- The input and the result, whole. -/
abbrev xM : Memref sig .tc .hbm S100000x128 .f32 := Memref.whole main_arg0
abbrev resM : Memref sig .tc .hbm S100000x132 .f32 := Memref.whole main_v0

instance : NeZero grid0.N := ⟨by rw [N_0]; decide⟩

theorem inb_inTile (s : Fin 2) (r : Fin 5) : ∀ a, (![s.val, 2000 * r.val, 0] : Fin 3 → Nat) a + S1x2000x128.size a ≤ S2x10000x128.size a := by
  have := s.isLt; have := r.isLt; intro a; fin_cases a <;> simp <;> omega
theorem inb_src (b : Fin 10) (r : Fin 5) : ∀ a, (![10000 * b.val + 2000 * r.val, 0] : Fin 2 → Nat) a + S2000x128.size a ≤ S100000x128.size a := by
  have := b.isLt; have := r.isLt; intro a; fin_cases a <;> simp <;> omega
theorem inb_cell (s : Fin 2) (r : Fin 5) : ∀ a, (![s.val, r.val] : Fin 2 → Nat) a + S1x1.size a ≤ S2x5.size a := by
  have := s.isLt; have := r.isLt; intro a; fin_cases a <;> simp <;> omega
theorem inb_outTile (s : Fin 2) (r : Fin 5) : ∀ a, (![s.val, 2000 * r.val, 0] : Fin 3 → Nat) a + S1x2000x132.size a ≤ S2x10000x132.size a := by
  have := s.isLt; have := r.isLt; intro a; fin_cases a <;> simp <;> omega
theorem inb_piece (b : Fin 10) (r : Fin 5) : ∀ a, (![10000 * b.val + 2000 * r.val, 0] : Fin 2 → Nat) a + S2000x132.size a ≤ S100000x132.size a := by
  have := b.isLt; have := r.isLt; intro a; fin_cases a <;> simp <;> omega
theorem inb_inSlot (s : Fin 2) : ∀ a, (![s.val, 0, 0] : Fin 3 → Nat) a + S1x10000x128.size a ≤ S2x10000x128.size a := by
  have := s.isLt; intro a; fin_cases a <;> simp <;> omega
theorem inb_outSlot (s : Fin 2) : ∀ a, (![s.val, 0, 0] : Fin 3 → Nat) a + (![1, 10000, 132] : Fin 3 → Nat) a ≤ S2x10000x132.size a := by
  have := s.isLt; intro a; fin_cases a <;> simp <;> omega

/-- Stripe `r` of the input scratch's slot `s`, and of block `b` of the input. -/
def inTile (s : Fin 2) (r : Fin 5) : Memref sig .tc .vmem S2000x128 .f32 :=
  (inM.slice (Rect.unit (s := S2x10000x128) ![s.val, 2000 * r.val, 0] S1x2000x128.size (inb_inTile s r)) (fun _ => rfl)).squeeze S2000x128 squeezes_S1x2000x128_S2000x128
def src (b : Fin 10) (r : Fin 5) : Memref sig .tc .hbm S2000x128 .f32 :=
  xM.slice (Rect.unit (s := S100000x128) ![10000 * b.val + 2000 * r.val, 0] S2000x128.size (inb_src b r)) (fun _ => rfl)
/-- The cell a copy into stripe `r` of slot `s` is counted on. -/
@[irreducible] def inCell (s : Fin 2) (r : Fin 5) : DmaSems sig S_ := (cc0_scratch2.slice (Rect.unit (s := S2x5) ![s.val, r.val] S1x1.size (inb_cell s r))).squeeze S_ squeezes_S1x1_S_
theorem inCell_eq (s : Fin 2) (r : Fin 5) : inCell s r = (cc0_scratch2.slice (Rect.unit (s := S2x5) ![s.val, r.val] S1x1.size (inb_cell s r))).squeeze S_ squeezes_S1x1_S_ := by unfold inCell; rfl
/-- Stripe `r` of the result scratch's slot `s`, and of block `b` of the result. -/
def outTile (s : Fin 2) (r : Fin 5) : Memref sig .tc .vmem S2000x132 .f32 :=
  (outM.slice (Rect.unit (s := S2x10000x132) ![s.val, 2000 * r.val, 0] S1x2000x132.size (inb_outTile s r)) (fun _ => rfl)).squeeze S2000x132 squeezes_S1x2000x132_S2000x132
def piece (b : Fin 10) (r : Fin 5) : Memref sig .tc .hbm S2000x132 .f32 :=
  resM.slice (Rect.unit (s := S100000x132) ![10000 * b.val + 2000 * r.val, 0] S2000x132.size (inb_piece b r)) (fun _ => rfl)
/-- The cell a copy out of stripe `r` of slot `s` is counted on. -/
@[irreducible] def outCell (s : Fin 2) (r : Fin 5) : DmaSems sig S_ := (cc0_scratch3.slice (Rect.unit (s := S2x5) ![s.val, r.val] S1x1.size (inb_cell s r))).squeeze S_ squeezes_S1x1_S_
theorem outCell_eq (s : Fin 2) (r : Fin 5) : outCell s r = (cc0_scratch3.slice (Rect.unit (s := S2x5) ![s.val, r.val] S1x1.size (inb_cell s r))).squeeze S_ squeezes_S1x1_S_ := by unfold outCell; rfl
abbrev inCellR (s : Fin 2) (r : Fin 5) : SemLoc sig := SemLoc.dma (inCell s r).sem
abbrev outCellR (s : Fin 2) (r : Fin 5) : SemLoc sig := SemLoc.dma (outCell s r).sem
/-- Slot `s` of either scratch, whole. -/
def inSlot (s : Fin 2) : Memref sig .tc .vmem S1x10000x128 .f32 :=
  inM.slice (Rect.unit (s := S2x10000x128) ![s.val, 0, 0] S1x10000x128.size (inb_inSlot s)) (fun _ => rfl)
def outSlot (s : Fin 2) : Memref sig .tc .vmem ⟨3, ![1, 10000, 132]⟩ .f32 :=
  outM.slice (Rect.unit (s := S2x10000x132) ![s.val, 0, 0] ![1, 10000, 132] (inb_outSlot s)) (fun _ => rfl)

/-! ## The next block's copies in -/

theorem off1_eq : ∀ t : Fin grid0.N, k0_off1 (grid0.coords t) = ![(slotAt (t.val + 1)).val, 0] := by decide +kernel
@[sl_canon] theorem canon1 (t : Fin grid0.N) (h : ∀ a, (k0_off1 (grid0.coords t)) a + S1x1.size a ≤ S2x5.size a) :
    (cc0_scratch2.slice (Rect.unit (s := S2x5) (k0_off1 (grid0.coords t)) S1x1.size h)).squeeze S_ squeezes_S1x1_S_ = inCell (slotAt (t.val + 1)) 0 :=
  congrArg (fun A : DmaSems sig S1x1 => A.squeeze S_ squeezes_S1x1_S_) (SemArray.slice_unit_congr _ (off1_eq t) _ (inb_cell _ _)) |>.trans (inCell_eq _ 0).symm
theorem off4_eq : ∀ t : Fin grid0.N, k0_off4 (grid0.coords t) = ![(slotAt (t.val + 1)).val, 1] := by decide +kernel
@[sl_canon] theorem canon4 (t : Fin grid0.N) (h : ∀ a, (k0_off4 (grid0.coords t)) a + S1x1.size a ≤ S2x5.size a) :
    (cc0_scratch2.slice (Rect.unit (s := S2x5) (k0_off4 (grid0.coords t)) S1x1.size h)).squeeze S_ squeezes_S1x1_S_ = inCell (slotAt (t.val + 1)) 1 :=
  congrArg (fun A : DmaSems sig S1x1 => A.squeeze S_ squeezes_S1x1_S_) (SemArray.slice_unit_congr _ (off4_eq t) _ (inb_cell _ _)) |>.trans (inCell_eq _ 1).symm
theorem off6_eq : ∀ t : Fin grid0.N, k0_off6 (grid0.coords t) = ![(slotAt (t.val + 1)).val, 2] := by decide +kernel
@[sl_canon] theorem canon6 (t : Fin grid0.N) (h : ∀ a, (k0_off6 (grid0.coords t)) a + S1x1.size a ≤ S2x5.size a) :
    (cc0_scratch2.slice (Rect.unit (s := S2x5) (k0_off6 (grid0.coords t)) S1x1.size h)).squeeze S_ squeezes_S1x1_S_ = inCell (slotAt (t.val + 1)) 2 :=
  congrArg (fun A : DmaSems sig S1x1 => A.squeeze S_ squeezes_S1x1_S_) (SemArray.slice_unit_congr _ (off6_eq t) _ (inb_cell _ _)) |>.trans (inCell_eq _ 2).symm
theorem off8_eq : ∀ t : Fin grid0.N, k0_off8 (grid0.coords t) = ![(slotAt (t.val + 1)).val, 3] := by decide +kernel
@[sl_canon] theorem canon8 (t : Fin grid0.N) (h : ∀ a, (k0_off8 (grid0.coords t)) a + S1x1.size a ≤ S2x5.size a) :
    (cc0_scratch2.slice (Rect.unit (s := S2x5) (k0_off8 (grid0.coords t)) S1x1.size h)).squeeze S_ squeezes_S1x1_S_ = inCell (slotAt (t.val + 1)) 3 :=
  congrArg (fun A : DmaSems sig S1x1 => A.squeeze S_ squeezes_S1x1_S_) (SemArray.slice_unit_congr _ (off8_eq t) _ (inb_cell _ _)) |>.trans (inCell_eq _ 3).symm
theorem off10_eq : ∀ t : Fin grid0.N, k0_off10 (grid0.coords t) = ![(slotAt (t.val + 1)).val, 4] := by decide +kernel
@[sl_canon] theorem canon10 (t : Fin grid0.N) (h : ∀ a, (k0_off10 (grid0.coords t)) a + S1x1.size a ≤ S2x5.size a) :
    (cc0_scratch2.slice (Rect.unit (s := S2x5) (k0_off10 (grid0.coords t)) S1x1.size h)).squeeze S_ squeezes_S1x1_S_ = inCell (slotAt (t.val + 1)) 4 :=
  congrArg (fun A : DmaSems sig S1x1 => A.squeeze S_ squeezes_S1x1_S_) (SemArray.slice_unit_congr _ (off10_eq t) _ (inb_cell _ _)) |>.trans (inCell_eq _ 4).symm
theorem off2_eq : ∀ t : Fin grid0.N, k0_off2 (grid0.coords t) = ![(slotAt (t.val + 1)).val, 0, 0] := by decide +kernel
@[sl_canon] theorem canon2 (t : Fin grid0.N) (h : ∀ a, (k0_off2 (grid0.coords t)) a + S1x2000x128.size a ≤ S2x10000x128.size a) :
    (inM.slice (Rect.unit (s := S2x10000x128) (k0_off2 (grid0.coords t)) S1x2000x128.size h) (fun _ => rfl)).squeeze S2000x128 squeezes_S1x2000x128_S2000x128 = inTile (slotAt (t.val + 1)) 0 :=
  congrArg (fun M : Memref sig .tc .vmem S1x2000x128 .f32 => M.squeeze S2000x128 squeezes_S1x2000x128_S2000x128) (Memref.slice_unit_congr _ (off2_eq t) _ _ (fun _ => rfl) (fun _ => rfl))
theorem off5_eq : ∀ t : Fin grid0.N, k0_off5 (grid0.coords t) = ![(slotAt (t.val + 1)).val, 2000, 0] := by decide +kernel
@[sl_canon] theorem canon5 (t : Fin grid0.N) (h : ∀ a, (k0_off5 (grid0.coords t)) a + S1x2000x128.size a ≤ S2x10000x128.size a) :
    (inM.slice (Rect.unit (s := S2x10000x128) (k0_off5 (grid0.coords t)) S1x2000x128.size h) (fun _ => rfl)).squeeze S2000x128 squeezes_S1x2000x128_S2000x128 = inTile (slotAt (t.val + 1)) 1 :=
  congrArg (fun M : Memref sig .tc .vmem S1x2000x128 .f32 => M.squeeze S2000x128 squeezes_S1x2000x128_S2000x128) (Memref.slice_unit_congr _ (off5_eq t) _ _ (fun _ => rfl) (fun _ => rfl))
theorem off7_eq : ∀ t : Fin grid0.N, k0_off7 (grid0.coords t) = ![(slotAt (t.val + 1)).val, 4000, 0] := by decide +kernel
@[sl_canon] theorem canon7 (t : Fin grid0.N) (h : ∀ a, (k0_off7 (grid0.coords t)) a + S1x2000x128.size a ≤ S2x10000x128.size a) :
    (inM.slice (Rect.unit (s := S2x10000x128) (k0_off7 (grid0.coords t)) S1x2000x128.size h) (fun _ => rfl)).squeeze S2000x128 squeezes_S1x2000x128_S2000x128 = inTile (slotAt (t.val + 1)) 2 :=
  congrArg (fun M : Memref sig .tc .vmem S1x2000x128 .f32 => M.squeeze S2000x128 squeezes_S1x2000x128_S2000x128) (Memref.slice_unit_congr _ (off7_eq t) _ _ (fun _ => rfl) (fun _ => rfl))
theorem off9_eq : ∀ t : Fin grid0.N, k0_off9 (grid0.coords t) = ![(slotAt (t.val + 1)).val, 6000, 0] := by decide +kernel
@[sl_canon] theorem canon9 (t : Fin grid0.N) (h : ∀ a, (k0_off9 (grid0.coords t)) a + S1x2000x128.size a ≤ S2x10000x128.size a) :
    (inM.slice (Rect.unit (s := S2x10000x128) (k0_off9 (grid0.coords t)) S1x2000x128.size h) (fun _ => rfl)).squeeze S2000x128 squeezes_S1x2000x128_S2000x128 = inTile (slotAt (t.val + 1)) 3 :=
  congrArg (fun M : Memref sig .tc .vmem S1x2000x128 .f32 => M.squeeze S2000x128 squeezes_S1x2000x128_S2000x128) (Memref.slice_unit_congr _ (off9_eq t) _ _ (fun _ => rfl) (fun _ => rfl))
theorem off11_eq : ∀ t : Fin grid0.N, k0_off11 (grid0.coords t) = ![(slotAt (t.val + 1)).val, 8000, 0] := by decide +kernel
@[sl_canon] theorem canon11 (t : Fin grid0.N) (h : ∀ a, (k0_off11 (grid0.coords t)) a + S1x2000x128.size a ≤ S2x10000x128.size a) :
    (inM.slice (Rect.unit (s := S2x10000x128) (k0_off11 (grid0.coords t)) S1x2000x128.size h) (fun _ => rfl)).squeeze S2000x128 squeezes_S1x2000x128_S2000x128 = inTile (slotAt (t.val + 1)) 4 :=
  congrArg (fun M : Memref sig .tc .vmem S1x2000x128 .f32 => M.squeeze S2000x128 squeezes_S1x2000x128_S2000x128) (Memref.slice_unit_congr _ (off11_eq t) _ _ (fun _ => rfl) (fun _ => rfl))
theorem off3_0_eq : ∀ t : Fin grid0.N, k0_cond2 (grid0.coords t) = 1#1 → k0_off3 (grid0.coords t) 0#32 = ![10000 * (blockAt (t.val + 1)).val + 0, 0] := by decide +kernel
@[sl_canon] theorem canon3_0 (t : Fin grid0.N) (hc : k0_cond2 (grid0.coords t) = 1#1) (h : ∀ a, (k0_off3 (grid0.coords t) 0#32) a + S2000x128.size a ≤ S100000x128.size a) :
    xM.slice (Rect.unit (s := S100000x128) (k0_off3 (grid0.coords t) 0#32) S2000x128.size h) (fun _ => rfl) = src (blockAt (t.val + 1)) 0 :=
  Memref.slice_unit_congr _ (off3_0_eq t hc) _ _ (fun _ => rfl) (fun _ => rfl)
theorem off3_1_eq : ∀ t : Fin grid0.N, k0_cond2 (grid0.coords t) = 1#1 → k0_off3 (grid0.coords t) 2000#32 = ![10000 * (blockAt (t.val + 1)).val + 2000, 0] := by decide +kernel
@[sl_canon] theorem canon3_1 (t : Fin grid0.N) (hc : k0_cond2 (grid0.coords t) = 1#1) (h : ∀ a, (k0_off3 (grid0.coords t) 2000#32) a + S2000x128.size a ≤ S100000x128.size a) :
    xM.slice (Rect.unit (s := S100000x128) (k0_off3 (grid0.coords t) 2000#32) S2000x128.size h) (fun _ => rfl) = src (blockAt (t.val + 1)) 1 :=
  Memref.slice_unit_congr _ (off3_1_eq t hc) _ _ (fun _ => rfl) (fun _ => rfl)
theorem off3_2_eq : ∀ t : Fin grid0.N, k0_cond2 (grid0.coords t) = 1#1 → k0_off3 (grid0.coords t) 4000#32 = ![10000 * (blockAt (t.val + 1)).val + 4000, 0] := by decide +kernel
@[sl_canon] theorem canon3_2 (t : Fin grid0.N) (hc : k0_cond2 (grid0.coords t) = 1#1) (h : ∀ a, (k0_off3 (grid0.coords t) 4000#32) a + S2000x128.size a ≤ S100000x128.size a) :
    xM.slice (Rect.unit (s := S100000x128) (k0_off3 (grid0.coords t) 4000#32) S2000x128.size h) (fun _ => rfl) = src (blockAt (t.val + 1)) 2 :=
  Memref.slice_unit_congr _ (off3_2_eq t hc) _ _ (fun _ => rfl) (fun _ => rfl)
theorem off3_3_eq : ∀ t : Fin grid0.N, k0_cond2 (grid0.coords t) = 1#1 → k0_off3 (grid0.coords t) 6000#32 = ![10000 * (blockAt (t.val + 1)).val + 6000, 0] := by decide +kernel
@[sl_canon] theorem canon3_3 (t : Fin grid0.N) (hc : k0_cond2 (grid0.coords t) = 1#1) (h : ∀ a, (k0_off3 (grid0.coords t) 6000#32) a + S2000x128.size a ≤ S100000x128.size a) :
    xM.slice (Rect.unit (s := S100000x128) (k0_off3 (grid0.coords t) 6000#32) S2000x128.size h) (fun _ => rfl) = src (blockAt (t.val + 1)) 3 :=
  Memref.slice_unit_congr _ (off3_3_eq t hc) _ _ (fun _ => rfl) (fun _ => rfl)
theorem off3_4_eq : ∀ t : Fin grid0.N, k0_cond2 (grid0.coords t) = 1#1 → k0_off3 (grid0.coords t) 8000#32 = ![10000 * (blockAt (t.val + 1)).val + 8000, 0] := by decide +kernel
@[sl_canon] theorem canon3_4 (t : Fin grid0.N) (hc : k0_cond2 (grid0.coords t) = 1#1) (h : ∀ a, (k0_off3 (grid0.coords t) 8000#32) a + S2000x128.size a ≤ S100000x128.size a) :
    xM.slice (Rect.unit (s := S100000x128) (k0_off3 (grid0.coords t) 8000#32) S2000x128.size h) (fun _ => rfl) = src (blockAt (t.val + 1)) 4 :=
  Memref.slice_unit_congr _ (off3_4_eq t hc) _ _ (fun _ => rfl) (fun _ => rfl)

/-! ## The waits for this block's copies in -/

theorem off12_eq : ∀ t : Fin grid0.N, k0_off12 (grid0.coords t) = ![(slotAt t.val).val, 0] := by decide +kernel
@[sl_canon] theorem canon12 (t : Fin grid0.N) (h : ∀ a, (k0_off12 (grid0.coords t)) a + S1x1.size a ≤ S2x5.size a) :
    (cc0_scratch2.slice (Rect.unit (s := S2x5) (k0_off12 (grid0.coords t)) S1x1.size h)).squeeze S_ squeezes_S1x1_S_ = inCell (slotAt t.val) 0 :=
  congrArg (fun A : DmaSems sig S1x1 => A.squeeze S_ squeezes_S1x1_S_) (SemArray.slice_unit_congr _ (off12_eq t) _ (inb_cell _ _)) |>.trans (inCell_eq _ 0).symm
theorem off15_eq : ∀ t : Fin grid0.N, k0_off15 (grid0.coords t) = ![(slotAt t.val).val, 1] := by decide +kernel
@[sl_canon] theorem canon15 (t : Fin grid0.N) (h : ∀ a, (k0_off15 (grid0.coords t)) a + S1x1.size a ≤ S2x5.size a) :
    (cc0_scratch2.slice (Rect.unit (s := S2x5) (k0_off15 (grid0.coords t)) S1x1.size h)).squeeze S_ squeezes_S1x1_S_ = inCell (slotAt t.val) 1 :=
  congrArg (fun A : DmaSems sig S1x1 => A.squeeze S_ squeezes_S1x1_S_) (SemArray.slice_unit_congr _ (off15_eq t) _ (inb_cell _ _)) |>.trans (inCell_eq _ 1).symm
theorem off17_eq : ∀ t : Fin grid0.N, k0_off17 (grid0.coords t) = ![(slotAt t.val).val, 2] := by decide +kernel
@[sl_canon] theorem canon17 (t : Fin grid0.N) (h : ∀ a, (k0_off17 (grid0.coords t)) a + S1x1.size a ≤ S2x5.size a) :
    (cc0_scratch2.slice (Rect.unit (s := S2x5) (k0_off17 (grid0.coords t)) S1x1.size h)).squeeze S_ squeezes_S1x1_S_ = inCell (slotAt t.val) 2 :=
  congrArg (fun A : DmaSems sig S1x1 => A.squeeze S_ squeezes_S1x1_S_) (SemArray.slice_unit_congr _ (off17_eq t) _ (inb_cell _ _)) |>.trans (inCell_eq _ 2).symm
theorem off19_eq : ∀ t : Fin grid0.N, k0_off19 (grid0.coords t) = ![(slotAt t.val).val, 3] := by decide +kernel
@[sl_canon] theorem canon19 (t : Fin grid0.N) (h : ∀ a, (k0_off19 (grid0.coords t)) a + S1x1.size a ≤ S2x5.size a) :
    (cc0_scratch2.slice (Rect.unit (s := S2x5) (k0_off19 (grid0.coords t)) S1x1.size h)).squeeze S_ squeezes_S1x1_S_ = inCell (slotAt t.val) 3 :=
  congrArg (fun A : DmaSems sig S1x1 => A.squeeze S_ squeezes_S1x1_S_) (SemArray.slice_unit_congr _ (off19_eq t) _ (inb_cell _ _)) |>.trans (inCell_eq _ 3).symm
theorem off21_eq : ∀ t : Fin grid0.N, k0_off21 (grid0.coords t) = ![(slotAt t.val).val, 4] := by decide +kernel
@[sl_canon] theorem canon21 (t : Fin grid0.N) (h : ∀ a, (k0_off21 (grid0.coords t)) a + S1x1.size a ≤ S2x5.size a) :
    (cc0_scratch2.slice (Rect.unit (s := S2x5) (k0_off21 (grid0.coords t)) S1x1.size h)).squeeze S_ squeezes_S1x1_S_ = inCell (slotAt t.val) 4 :=
  congrArg (fun A : DmaSems sig S1x1 => A.squeeze S_ squeezes_S1x1_S_) (SemArray.slice_unit_congr _ (off21_eq t) _ (inb_cell _ _)) |>.trans (inCell_eq _ 4).symm
theorem off13_eq : ∀ t : Fin grid0.N, k0_off13 (grid0.coords t) = ![(slotAt t.val).val, 0, 0] := by decide +kernel
@[sl_canon] theorem canon13 (t : Fin grid0.N) (h : ∀ a, (k0_off13 (grid0.coords t)) a + S1x2000x128.size a ≤ S2x10000x128.size a) :
    (inM.slice (Rect.unit (s := S2x10000x128) (k0_off13 (grid0.coords t)) S1x2000x128.size h) (fun _ => rfl)).squeeze S2000x128 squeezes_S1x2000x128_S2000x128 = inTile (slotAt t.val) 0 :=
  congrArg (fun M : Memref sig .tc .vmem S1x2000x128 .f32 => M.squeeze S2000x128 squeezes_S1x2000x128_S2000x128) (Memref.slice_unit_congr _ (off13_eq t) _ _ (fun _ => rfl) (fun _ => rfl))
theorem off16_eq : ∀ t : Fin grid0.N, k0_off16 (grid0.coords t) = ![(slotAt t.val).val, 2000, 0] := by decide +kernel
@[sl_canon] theorem canon16 (t : Fin grid0.N) (h : ∀ a, (k0_off16 (grid0.coords t)) a + S1x2000x128.size a ≤ S2x10000x128.size a) :
    (inM.slice (Rect.unit (s := S2x10000x128) (k0_off16 (grid0.coords t)) S1x2000x128.size h) (fun _ => rfl)).squeeze S2000x128 squeezes_S1x2000x128_S2000x128 = inTile (slotAt t.val) 1 :=
  congrArg (fun M : Memref sig .tc .vmem S1x2000x128 .f32 => M.squeeze S2000x128 squeezes_S1x2000x128_S2000x128) (Memref.slice_unit_congr _ (off16_eq t) _ _ (fun _ => rfl) (fun _ => rfl))
theorem off18_eq : ∀ t : Fin grid0.N, k0_off18 (grid0.coords t) = ![(slotAt t.val).val, 4000, 0] := by decide +kernel
@[sl_canon] theorem canon18 (t : Fin grid0.N) (h : ∀ a, (k0_off18 (grid0.coords t)) a + S1x2000x128.size a ≤ S2x10000x128.size a) :
    (inM.slice (Rect.unit (s := S2x10000x128) (k0_off18 (grid0.coords t)) S1x2000x128.size h) (fun _ => rfl)).squeeze S2000x128 squeezes_S1x2000x128_S2000x128 = inTile (slotAt t.val) 2 :=
  congrArg (fun M : Memref sig .tc .vmem S1x2000x128 .f32 => M.squeeze S2000x128 squeezes_S1x2000x128_S2000x128) (Memref.slice_unit_congr _ (off18_eq t) _ _ (fun _ => rfl) (fun _ => rfl))
theorem off20_eq : ∀ t : Fin grid0.N, k0_off20 (grid0.coords t) = ![(slotAt t.val).val, 6000, 0] := by decide +kernel
@[sl_canon] theorem canon20 (t : Fin grid0.N) (h : ∀ a, (k0_off20 (grid0.coords t)) a + S1x2000x128.size a ≤ S2x10000x128.size a) :
    (inM.slice (Rect.unit (s := S2x10000x128) (k0_off20 (grid0.coords t)) S1x2000x128.size h) (fun _ => rfl)).squeeze S2000x128 squeezes_S1x2000x128_S2000x128 = inTile (slotAt t.val) 3 :=
  congrArg (fun M : Memref sig .tc .vmem S1x2000x128 .f32 => M.squeeze S2000x128 squeezes_S1x2000x128_S2000x128) (Memref.slice_unit_congr _ (off20_eq t) _ _ (fun _ => rfl) (fun _ => rfl))
theorem off22_eq : ∀ t : Fin grid0.N, k0_off22 (grid0.coords t) = ![(slotAt t.val).val, 8000, 0] := by decide +kernel
@[sl_canon] theorem canon22 (t : Fin grid0.N) (h : ∀ a, (k0_off22 (grid0.coords t)) a + S1x2000x128.size a ≤ S2x10000x128.size a) :
    (inM.slice (Rect.unit (s := S2x10000x128) (k0_off22 (grid0.coords t)) S1x2000x128.size h) (fun _ => rfl)).squeeze S2000x128 squeezes_S1x2000x128_S2000x128 = inTile (slotAt t.val) 4 :=
  congrArg (fun M : Memref sig .tc .vmem S1x2000x128 .f32 => M.squeeze S2000x128 squeezes_S1x2000x128_S2000x128) (Memref.slice_unit_congr _ (off22_eq t) _ _ (fun _ => rfl) (fun _ => rfl))
theorem off14_0_eq : ∀ t : Fin grid0.N, k0_off14 (grid0.coords t) 0#32 = ![10000 * (blockAt t.val).val + 0, 0] := by decide +kernel
@[sl_canon] theorem canon14_0 (t : Fin grid0.N) (h : ∀ a, (k0_off14 (grid0.coords t) 0#32) a + S2000x128.size a ≤ S100000x128.size a) :
    xM.slice (Rect.unit (s := S100000x128) (k0_off14 (grid0.coords t) 0#32) S2000x128.size h) (fun _ => rfl) = src (blockAt t.val) 0 :=
  Memref.slice_unit_congr _ (off14_0_eq t) _ _ (fun _ => rfl) (fun _ => rfl)
theorem off14_1_eq : ∀ t : Fin grid0.N, k0_off14 (grid0.coords t) 2000#32 = ![10000 * (blockAt t.val).val + 2000, 0] := by decide +kernel
@[sl_canon] theorem canon14_1 (t : Fin grid0.N) (h : ∀ a, (k0_off14 (grid0.coords t) 2000#32) a + S2000x128.size a ≤ S100000x128.size a) :
    xM.slice (Rect.unit (s := S100000x128) (k0_off14 (grid0.coords t) 2000#32) S2000x128.size h) (fun _ => rfl) = src (blockAt t.val) 1 :=
  Memref.slice_unit_congr _ (off14_1_eq t) _ _ (fun _ => rfl) (fun _ => rfl)
theorem off14_2_eq : ∀ t : Fin grid0.N, k0_off14 (grid0.coords t) 4000#32 = ![10000 * (blockAt t.val).val + 4000, 0] := by decide +kernel
@[sl_canon] theorem canon14_2 (t : Fin grid0.N) (h : ∀ a, (k0_off14 (grid0.coords t) 4000#32) a + S2000x128.size a ≤ S100000x128.size a) :
    xM.slice (Rect.unit (s := S100000x128) (k0_off14 (grid0.coords t) 4000#32) S2000x128.size h) (fun _ => rfl) = src (blockAt t.val) 2 :=
  Memref.slice_unit_congr _ (off14_2_eq t) _ _ (fun _ => rfl) (fun _ => rfl)
theorem off14_3_eq : ∀ t : Fin grid0.N, k0_off14 (grid0.coords t) 6000#32 = ![10000 * (blockAt t.val).val + 6000, 0] := by decide +kernel
@[sl_canon] theorem canon14_3 (t : Fin grid0.N) (h : ∀ a, (k0_off14 (grid0.coords t) 6000#32) a + S2000x128.size a ≤ S100000x128.size a) :
    xM.slice (Rect.unit (s := S100000x128) (k0_off14 (grid0.coords t) 6000#32) S2000x128.size h) (fun _ => rfl) = src (blockAt t.val) 3 :=
  Memref.slice_unit_congr _ (off14_3_eq t) _ _ (fun _ => rfl) (fun _ => rfl)
theorem off14_4_eq : ∀ t : Fin grid0.N, k0_off14 (grid0.coords t) 8000#32 = ![10000 * (blockAt t.val).val + 8000, 0] := by decide +kernel
@[sl_canon] theorem canon14_4 (t : Fin grid0.N) (h : ∀ a, (k0_off14 (grid0.coords t) 8000#32) a + S2000x128.size a ≤ S100000x128.size a) :
    xM.slice (Rect.unit (s := S100000x128) (k0_off14 (grid0.coords t) 8000#32) S2000x128.size h) (fun _ => rfl) = src (blockAt t.val) 4 :=
  Memref.slice_unit_congr _ (off14_4_eq t) _ _ (fun _ => rfl) (fun _ => rfl)

/-! ## The waits for the copies out of two points before -/

theorem off23_eq : ∀ t : Fin grid0.N, k0_off23 (grid0.coords t) = ![(slotAt t.val).val, 0] := by decide +kernel
@[sl_canon] theorem canon23o (t : Fin grid0.N) (h : ∀ a, (k0_off23 (grid0.coords t)) a + S1x1.size a ≤ S2x5.size a) :
    (cc0_scratch3.slice (Rect.unit (s := S2x5) (k0_off23 (grid0.coords t)) S1x1.size h)).squeeze S_ squeezes_S1x1_S_ = outCell (slotAt t.val) 0 :=
  congrArg (fun A : DmaSems sig S1x1 => A.squeeze S_ squeezes_S1x1_S_) (SemArray.slice_unit_congr _ (off23_eq t) _ (inb_cell _ _)) |>.trans (outCell_eq _ 0).symm
theorem off26_eq : ∀ t : Fin grid0.N, k0_off26 (grid0.coords t) = ![(slotAt t.val).val, 1] := by decide +kernel
@[sl_canon] theorem canon26o (t : Fin grid0.N) (h : ∀ a, (k0_off26 (grid0.coords t)) a + S1x1.size a ≤ S2x5.size a) :
    (cc0_scratch3.slice (Rect.unit (s := S2x5) (k0_off26 (grid0.coords t)) S1x1.size h)).squeeze S_ squeezes_S1x1_S_ = outCell (slotAt t.val) 1 :=
  congrArg (fun A : DmaSems sig S1x1 => A.squeeze S_ squeezes_S1x1_S_) (SemArray.slice_unit_congr _ (off26_eq t) _ (inb_cell _ _)) |>.trans (outCell_eq _ 1).symm
theorem off28_eq : ∀ t : Fin grid0.N, k0_off28 (grid0.coords t) = ![(slotAt t.val).val, 2] := by decide +kernel
@[sl_canon] theorem canon28o (t : Fin grid0.N) (h : ∀ a, (k0_off28 (grid0.coords t)) a + S1x1.size a ≤ S2x5.size a) :
    (cc0_scratch3.slice (Rect.unit (s := S2x5) (k0_off28 (grid0.coords t)) S1x1.size h)).squeeze S_ squeezes_S1x1_S_ = outCell (slotAt t.val) 2 :=
  congrArg (fun A : DmaSems sig S1x1 => A.squeeze S_ squeezes_S1x1_S_) (SemArray.slice_unit_congr _ (off28_eq t) _ (inb_cell _ _)) |>.trans (outCell_eq _ 2).symm
theorem off30_eq : ∀ t : Fin grid0.N, k0_off30 (grid0.coords t) = ![(slotAt t.val).val, 3] := by decide +kernel
@[sl_canon] theorem canon30o (t : Fin grid0.N) (h : ∀ a, (k0_off30 (grid0.coords t)) a + S1x1.size a ≤ S2x5.size a) :
    (cc0_scratch3.slice (Rect.unit (s := S2x5) (k0_off30 (grid0.coords t)) S1x1.size h)).squeeze S_ squeezes_S1x1_S_ = outCell (slotAt t.val) 3 :=
  congrArg (fun A : DmaSems sig S1x1 => A.squeeze S_ squeezes_S1x1_S_) (SemArray.slice_unit_congr _ (off30_eq t) _ (inb_cell _ _)) |>.trans (outCell_eq _ 3).symm
theorem off32_eq : ∀ t : Fin grid0.N, k0_off32 (grid0.coords t) = ![(slotAt t.val).val, 4] := by decide +kernel
@[sl_canon] theorem canon32o (t : Fin grid0.N) (h : ∀ a, (k0_off32 (grid0.coords t)) a + S1x1.size a ≤ S2x5.size a) :
    (cc0_scratch3.slice (Rect.unit (s := S2x5) (k0_off32 (grid0.coords t)) S1x1.size h)).squeeze S_ squeezes_S1x1_S_ = outCell (slotAt t.val) 4 :=
  congrArg (fun A : DmaSems sig S1x1 => A.squeeze S_ squeezes_S1x1_S_) (SemArray.slice_unit_congr _ (off32_eq t) _ (inb_cell _ _)) |>.trans (outCell_eq _ 4).symm
theorem off25_eq : ∀ t : Fin grid0.N, k0_off25 (grid0.coords t) = ![(slotAt t.val).val, 0, 0] := by decide +kernel
@[sl_canon] theorem canon25 (t : Fin grid0.N) (h : ∀ a, (k0_off25 (grid0.coords t)) a + S1x2000x132.size a ≤ S2x10000x132.size a) :
    (outM.slice (Rect.unit (s := S2x10000x132) (k0_off25 (grid0.coords t)) S1x2000x132.size h) (fun _ => rfl)).squeeze S2000x132 squeezes_S1x2000x132_S2000x132 = outTile (slotAt t.val) 0 :=
  congrArg (fun M : Memref sig .tc .vmem S1x2000x132 .f32 => M.squeeze S2000x132 squeezes_S1x2000x132_S2000x132) (Memref.slice_unit_congr _ (off25_eq t) _ _ (fun _ => rfl) (fun _ => rfl))
theorem off27_eq : ∀ t : Fin grid0.N, k0_off27 (grid0.coords t) = ![(slotAt t.val).val, 2000, 0] := by decide +kernel
@[sl_canon] theorem canon27 (t : Fin grid0.N) (h : ∀ a, (k0_off27 (grid0.coords t)) a + S1x2000x132.size a ≤ S2x10000x132.size a) :
    (outM.slice (Rect.unit (s := S2x10000x132) (k0_off27 (grid0.coords t)) S1x2000x132.size h) (fun _ => rfl)).squeeze S2000x132 squeezes_S1x2000x132_S2000x132 = outTile (slotAt t.val) 1 :=
  congrArg (fun M : Memref sig .tc .vmem S1x2000x132 .f32 => M.squeeze S2000x132 squeezes_S1x2000x132_S2000x132) (Memref.slice_unit_congr _ (off27_eq t) _ _ (fun _ => rfl) (fun _ => rfl))
theorem off29_eq : ∀ t : Fin grid0.N, k0_off29 (grid0.coords t) = ![(slotAt t.val).val, 4000, 0] := by decide +kernel
@[sl_canon] theorem canon29 (t : Fin grid0.N) (h : ∀ a, (k0_off29 (grid0.coords t)) a + S1x2000x132.size a ≤ S2x10000x132.size a) :
    (outM.slice (Rect.unit (s := S2x10000x132) (k0_off29 (grid0.coords t)) S1x2000x132.size h) (fun _ => rfl)).squeeze S2000x132 squeezes_S1x2000x132_S2000x132 = outTile (slotAt t.val) 2 :=
  congrArg (fun M : Memref sig .tc .vmem S1x2000x132 .f32 => M.squeeze S2000x132 squeezes_S1x2000x132_S2000x132) (Memref.slice_unit_congr _ (off29_eq t) _ _ (fun _ => rfl) (fun _ => rfl))
theorem off31_eq : ∀ t : Fin grid0.N, k0_off31 (grid0.coords t) = ![(slotAt t.val).val, 6000, 0] := by decide +kernel
@[sl_canon] theorem canon31 (t : Fin grid0.N) (h : ∀ a, (k0_off31 (grid0.coords t)) a + S1x2000x132.size a ≤ S2x10000x132.size a) :
    (outM.slice (Rect.unit (s := S2x10000x132) (k0_off31 (grid0.coords t)) S1x2000x132.size h) (fun _ => rfl)).squeeze S2000x132 squeezes_S1x2000x132_S2000x132 = outTile (slotAt t.val) 3 :=
  congrArg (fun M : Memref sig .tc .vmem S1x2000x132 .f32 => M.squeeze S2000x132 squeezes_S1x2000x132_S2000x132) (Memref.slice_unit_congr _ (off31_eq t) _ _ (fun _ => rfl) (fun _ => rfl))
theorem off33_eq : ∀ t : Fin grid0.N, k0_off33 (grid0.coords t) = ![(slotAt t.val).val, 8000, 0] := by decide +kernel
@[sl_canon] theorem canon33 (t : Fin grid0.N) (h : ∀ a, (k0_off33 (grid0.coords t)) a + S1x2000x132.size a ≤ S2x10000x132.size a) :
    (outM.slice (Rect.unit (s := S2x10000x132) (k0_off33 (grid0.coords t)) S1x2000x132.size h) (fun _ => rfl)).squeeze S2000x132 squeezes_S1x2000x132_S2000x132 = outTile (slotAt t.val) 4 :=
  congrArg (fun M : Memref sig .tc .vmem S1x2000x132 .f32 => M.squeeze S2000x132 squeezes_S1x2000x132_S2000x132) (Memref.slice_unit_congr _ (off33_eq t) _ _ (fun _ => rfl) (fun _ => rfl))
theorem off24_0_eq : ∀ t : Fin grid0.N, k0_cond3 (grid0.coords t) = 1#1 → k0_off24 (grid0.coords t) 0#32 = ![10000 * (blockAt (t.val - 2)).val + 0, 0] := by decide +kernel
@[sl_canon] theorem canon24_0 (t : Fin grid0.N) (hc : k0_cond3 (grid0.coords t) = 1#1) (h : ∀ a, (k0_off24 (grid0.coords t) 0#32) a + S2000x132.size a ≤ S100000x132.size a) :
    resM.slice (Rect.unit (s := S100000x132) (k0_off24 (grid0.coords t) 0#32) S2000x132.size h) (fun _ => rfl) = piece (blockAt (t.val - 2)) 0 :=
  Memref.slice_unit_congr _ (off24_0_eq t hc) _ _ (fun _ => rfl) (fun _ => rfl)
theorem off24_1_eq : ∀ t : Fin grid0.N, k0_cond3 (grid0.coords t) = 1#1 → k0_off24 (grid0.coords t) 2000#32 = ![10000 * (blockAt (t.val - 2)).val + 2000, 0] := by decide +kernel
@[sl_canon] theorem canon24_1 (t : Fin grid0.N) (hc : k0_cond3 (grid0.coords t) = 1#1) (h : ∀ a, (k0_off24 (grid0.coords t) 2000#32) a + S2000x132.size a ≤ S100000x132.size a) :
    resM.slice (Rect.unit (s := S100000x132) (k0_off24 (grid0.coords t) 2000#32) S2000x132.size h) (fun _ => rfl) = piece (blockAt (t.val - 2)) 1 :=
  Memref.slice_unit_congr _ (off24_1_eq t hc) _ _ (fun _ => rfl) (fun _ => rfl)
theorem off24_2_eq : ∀ t : Fin grid0.N, k0_cond3 (grid0.coords t) = 1#1 → k0_off24 (grid0.coords t) 4000#32 = ![10000 * (blockAt (t.val - 2)).val + 4000, 0] := by decide +kernel
@[sl_canon] theorem canon24_2 (t : Fin grid0.N) (hc : k0_cond3 (grid0.coords t) = 1#1) (h : ∀ a, (k0_off24 (grid0.coords t) 4000#32) a + S2000x132.size a ≤ S100000x132.size a) :
    resM.slice (Rect.unit (s := S100000x132) (k0_off24 (grid0.coords t) 4000#32) S2000x132.size h) (fun _ => rfl) = piece (blockAt (t.val - 2)) 2 :=
  Memref.slice_unit_congr _ (off24_2_eq t hc) _ _ (fun _ => rfl) (fun _ => rfl)
theorem off24_3_eq : ∀ t : Fin grid0.N, k0_cond3 (grid0.coords t) = 1#1 → k0_off24 (grid0.coords t) 6000#32 = ![10000 * (blockAt (t.val - 2)).val + 6000, 0] := by decide +kernel
@[sl_canon] theorem canon24_3 (t : Fin grid0.N) (hc : k0_cond3 (grid0.coords t) = 1#1) (h : ∀ a, (k0_off24 (grid0.coords t) 6000#32) a + S2000x132.size a ≤ S100000x132.size a) :
    resM.slice (Rect.unit (s := S100000x132) (k0_off24 (grid0.coords t) 6000#32) S2000x132.size h) (fun _ => rfl) = piece (blockAt (t.val - 2)) 3 :=
  Memref.slice_unit_congr _ (off24_3_eq t hc) _ _ (fun _ => rfl) (fun _ => rfl)
theorem off24_4_eq : ∀ t : Fin grid0.N, k0_cond3 (grid0.coords t) = 1#1 → k0_off24 (grid0.coords t) 8000#32 = ![10000 * (blockAt (t.val - 2)).val + 8000, 0] := by decide +kernel
@[sl_canon] theorem canon24_4 (t : Fin grid0.N) (hc : k0_cond3 (grid0.coords t) = 1#1) (h : ∀ a, (k0_off24 (grid0.coords t) 8000#32) a + S2000x132.size a ≤ S100000x132.size a) :
    resM.slice (Rect.unit (s := S100000x132) (k0_off24 (grid0.coords t) 8000#32) S2000x132.size h) (fun _ => rfl) = piece (blockAt (t.val - 2)) 4 :=
  Memref.slice_unit_congr _ (off24_4_eq t hc) _ _ (fun _ => rfl) (fun _ => rfl)

/-! ## The copies out -/

@[sl_canon] theorem canon12o (t : Fin grid0.N) (h : ∀ a, (k0_off12 (grid0.coords t)) a + S1x1.size a ≤ S2x5.size a) :
    (cc0_scratch3.slice (Rect.unit (s := S2x5) (k0_off12 (grid0.coords t)) S1x1.size h)).squeeze S_ squeezes_S1x1_S_ = outCell (slotAt t.val) 0 :=
  congrArg (fun A : DmaSems sig S1x1 => A.squeeze S_ squeezes_S1x1_S_) (SemArray.slice_unit_congr _ (off12_eq t) _ (inb_cell _ _)) |>.trans (outCell_eq _ 0).symm
@[sl_canon] theorem canon15o (t : Fin grid0.N) (h : ∀ a, (k0_off15 (grid0.coords t)) a + S1x1.size a ≤ S2x5.size a) :
    (cc0_scratch3.slice (Rect.unit (s := S2x5) (k0_off15 (grid0.coords t)) S1x1.size h)).squeeze S_ squeezes_S1x1_S_ = outCell (slotAt t.val) 1 :=
  congrArg (fun A : DmaSems sig S1x1 => A.squeeze S_ squeezes_S1x1_S_) (SemArray.slice_unit_congr _ (off15_eq t) _ (inb_cell _ _)) |>.trans (outCell_eq _ 1).symm
@[sl_canon] theorem canon17o (t : Fin grid0.N) (h : ∀ a, (k0_off17 (grid0.coords t)) a + S1x1.size a ≤ S2x5.size a) :
    (cc0_scratch3.slice (Rect.unit (s := S2x5) (k0_off17 (grid0.coords t)) S1x1.size h)).squeeze S_ squeezes_S1x1_S_ = outCell (slotAt t.val) 2 :=
  congrArg (fun A : DmaSems sig S1x1 => A.squeeze S_ squeezes_S1x1_S_) (SemArray.slice_unit_congr _ (off17_eq t) _ (inb_cell _ _)) |>.trans (outCell_eq _ 2).symm
@[sl_canon] theorem canon19o (t : Fin grid0.N) (h : ∀ a, (k0_off19 (grid0.coords t)) a + S1x1.size a ≤ S2x5.size a) :
    (cc0_scratch3.slice (Rect.unit (s := S2x5) (k0_off19 (grid0.coords t)) S1x1.size h)).squeeze S_ squeezes_S1x1_S_ = outCell (slotAt t.val) 3 :=
  congrArg (fun A : DmaSems sig S1x1 => A.squeeze S_ squeezes_S1x1_S_) (SemArray.slice_unit_congr _ (off19_eq t) _ (inb_cell _ _)) |>.trans (outCell_eq _ 3).symm
@[sl_canon] theorem canon21o (t : Fin grid0.N) (h : ∀ a, (k0_off21 (grid0.coords t)) a + S1x1.size a ≤ S2x5.size a) :
    (cc0_scratch3.slice (Rect.unit (s := S2x5) (k0_off21 (grid0.coords t)) S1x1.size h)).squeeze S_ squeezes_S1x1_S_ = outCell (slotAt t.val) 4 :=
  congrArg (fun A : DmaSems sig S1x1 => A.squeeze S_ squeezes_S1x1_S_) (SemArray.slice_unit_congr _ (off21_eq t) _ (inb_cell _ _)) |>.trans (outCell_eq _ 4).symm
theorem off45_eq : ∀ t : Fin grid0.N, k0_off45 (grid0.coords t) = ![(slotAt t.val).val, 0, 0] := by decide +kernel
@[sl_canon] theorem canon45 (t : Fin grid0.N) (h : ∀ a, (k0_off45 (grid0.coords t)) a + S1x2000x132.size a ≤ S2x10000x132.size a) :
    (outM.slice (Rect.unit (s := S2x10000x132) (k0_off45 (grid0.coords t)) S1x2000x132.size h) (fun _ => rfl)).squeeze S2000x132 squeezes_S1x2000x132_S2000x132 = outTile (slotAt t.val) 0 :=
  congrArg (fun M : Memref sig .tc .vmem S1x2000x132 .f32 => M.squeeze S2000x132 squeezes_S1x2000x132_S2000x132) (Memref.slice_unit_congr _ (off45_eq t) _ _ (fun _ => rfl) (fun _ => rfl))
theorem off46_eq : ∀ t : Fin grid0.N, k0_off46 (grid0.coords t) = ![(slotAt t.val).val, 2000, 0] := by decide +kernel
@[sl_canon] theorem canon46 (t : Fin grid0.N) (h : ∀ a, (k0_off46 (grid0.coords t)) a + S1x2000x132.size a ≤ S2x10000x132.size a) :
    (outM.slice (Rect.unit (s := S2x10000x132) (k0_off46 (grid0.coords t)) S1x2000x132.size h) (fun _ => rfl)).squeeze S2000x132 squeezes_S1x2000x132_S2000x132 = outTile (slotAt t.val) 1 :=
  congrArg (fun M : Memref sig .tc .vmem S1x2000x132 .f32 => M.squeeze S2000x132 squeezes_S1x2000x132_S2000x132) (Memref.slice_unit_congr _ (off46_eq t) _ _ (fun _ => rfl) (fun _ => rfl))
theorem off47_eq : ∀ t : Fin grid0.N, k0_off47 (grid0.coords t) = ![(slotAt t.val).val, 4000, 0] := by decide +kernel
@[sl_canon] theorem canon47 (t : Fin grid0.N) (h : ∀ a, (k0_off47 (grid0.coords t)) a + S1x2000x132.size a ≤ S2x10000x132.size a) :
    (outM.slice (Rect.unit (s := S2x10000x132) (k0_off47 (grid0.coords t)) S1x2000x132.size h) (fun _ => rfl)).squeeze S2000x132 squeezes_S1x2000x132_S2000x132 = outTile (slotAt t.val) 2 :=
  congrArg (fun M : Memref sig .tc .vmem S1x2000x132 .f32 => M.squeeze S2000x132 squeezes_S1x2000x132_S2000x132) (Memref.slice_unit_congr _ (off47_eq t) _ _ (fun _ => rfl) (fun _ => rfl))
theorem off48_eq : ∀ t : Fin grid0.N, k0_off48 (grid0.coords t) = ![(slotAt t.val).val, 6000, 0] := by decide +kernel
@[sl_canon] theorem canon48 (t : Fin grid0.N) (h : ∀ a, (k0_off48 (grid0.coords t)) a + S1x2000x132.size a ≤ S2x10000x132.size a) :
    (outM.slice (Rect.unit (s := S2x10000x132) (k0_off48 (grid0.coords t)) S1x2000x132.size h) (fun _ => rfl)).squeeze S2000x132 squeezes_S1x2000x132_S2000x132 = outTile (slotAt t.val) 3 :=
  congrArg (fun M : Memref sig .tc .vmem S1x2000x132 .f32 => M.squeeze S2000x132 squeezes_S1x2000x132_S2000x132) (Memref.slice_unit_congr _ (off48_eq t) _ _ (fun _ => rfl) (fun _ => rfl))
theorem off49_eq : ∀ t : Fin grid0.N, k0_off49 (grid0.coords t) = ![(slotAt t.val).val, 8000, 0] := by decide +kernel
@[sl_canon] theorem canon49 (t : Fin grid0.N) (h : ∀ a, (k0_off49 (grid0.coords t)) a + S1x2000x132.size a ≤ S2x10000x132.size a) :
    (outM.slice (Rect.unit (s := S2x10000x132) (k0_off49 (grid0.coords t)) S1x2000x132.size h) (fun _ => rfl)).squeeze S2000x132 squeezes_S1x2000x132_S2000x132 = outTile (slotAt t.val) 4 :=
  congrArg (fun M : Memref sig .tc .vmem S1x2000x132 .f32 => M.squeeze S2000x132 squeezes_S1x2000x132_S2000x132) (Memref.slice_unit_congr _ (off49_eq t) _ _ (fun _ => rfl) (fun _ => rfl))
theorem off44_0_eq : ∀ t : Fin grid0.N, k0_off44 (grid0.coords t) 0#32 = ![10000 * (blockAt t.val).val + 0, 0] := by decide +kernel
@[sl_canon] theorem canon44_0 (t : Fin grid0.N) (h : ∀ a, (k0_off44 (grid0.coords t) 0#32) a + S2000x132.size a ≤ S100000x132.size a) :
    resM.slice (Rect.unit (s := S100000x132) (k0_off44 (grid0.coords t) 0#32) S2000x132.size h) (fun _ => rfl) = piece (blockAt t.val) 0 :=
  Memref.slice_unit_congr _ (off44_0_eq t) _ _ (fun _ => rfl) (fun _ => rfl)
theorem off44_1_eq : ∀ t : Fin grid0.N, k0_off44 (grid0.coords t) 2000#32 = ![10000 * (blockAt t.val).val + 2000, 0] := by decide +kernel
@[sl_canon] theorem canon44_1 (t : Fin grid0.N) (h : ∀ a, (k0_off44 (grid0.coords t) 2000#32) a + S2000x132.size a ≤ S100000x132.size a) :
    resM.slice (Rect.unit (s := S100000x132) (k0_off44 (grid0.coords t) 2000#32) S2000x132.size h) (fun _ => rfl) = piece (blockAt t.val) 1 :=
  Memref.slice_unit_congr _ (off44_1_eq t) _ _ (fun _ => rfl) (fun _ => rfl)
theorem off44_2_eq : ∀ t : Fin grid0.N, k0_off44 (grid0.coords t) 4000#32 = ![10000 * (blockAt t.val).val + 4000, 0] := by decide +kernel
@[sl_canon] theorem canon44_2 (t : Fin grid0.N) (h : ∀ a, (k0_off44 (grid0.coords t) 4000#32) a + S2000x132.size a ≤ S100000x132.size a) :
    resM.slice (Rect.unit (s := S100000x132) (k0_off44 (grid0.coords t) 4000#32) S2000x132.size h) (fun _ => rfl) = piece (blockAt t.val) 2 :=
  Memref.slice_unit_congr _ (off44_2_eq t) _ _ (fun _ => rfl) (fun _ => rfl)
theorem off44_3_eq : ∀ t : Fin grid0.N, k0_off44 (grid0.coords t) 6000#32 = ![10000 * (blockAt t.val).val + 6000, 0] := by decide +kernel
@[sl_canon] theorem canon44_3 (t : Fin grid0.N) (h : ∀ a, (k0_off44 (grid0.coords t) 6000#32) a + S2000x132.size a ≤ S100000x132.size a) :
    resM.slice (Rect.unit (s := S100000x132) (k0_off44 (grid0.coords t) 6000#32) S2000x132.size h) (fun _ => rfl) = piece (blockAt t.val) 3 :=
  Memref.slice_unit_congr _ (off44_3_eq t) _ _ (fun _ => rfl) (fun _ => rfl)
theorem off44_4_eq : ∀ t : Fin grid0.N, k0_off44 (grid0.coords t) 8000#32 = ![10000 * (blockAt t.val).val + 8000, 0] := by decide +kernel
@[sl_canon] theorem canon44_4 (t : Fin grid0.N) (h : ∀ a, (k0_off44 (grid0.coords t) 8000#32) a + S2000x132.size a ≤ S100000x132.size a) :
    resM.slice (Rect.unit (s := S100000x132) (k0_off44 (grid0.coords t) 8000#32) S2000x132.size h) (fun _ => rfl) = piece (blockAt t.val) 4 :=
  Memref.slice_unit_congr _ (off44_4_eq t) _ _ (fun _ => rfl) (fun _ => rfl)

/-! ## The last point's waits for the two last blocks' copies out -/

theorem off50_eq : ∀ t : Fin grid0.N, k0_off50 (grid0.coords t) = ![(slotAt (t.val + 1)).val, 0] := by decide +kernel
@[sl_canon] theorem canon50o (t : Fin grid0.N) (h : ∀ a, (k0_off50 (grid0.coords t)) a + S1x1.size a ≤ S2x5.size a) :
    (cc0_scratch3.slice (Rect.unit (s := S2x5) (k0_off50 (grid0.coords t)) S1x1.size h)).squeeze S_ squeezes_S1x1_S_ = outCell (slotAt (t.val + 1)) 0 :=
  congrArg (fun A : DmaSems sig S1x1 => A.squeeze S_ squeezes_S1x1_S_) (SemArray.slice_unit_congr _ (off50_eq t) _ (inb_cell _ _)) |>.trans (outCell_eq _ 0).symm
theorem off56_eq : ∀ t : Fin grid0.N, k0_off56 (grid0.coords t) = ![(slotAt (t.val + 1)).val, 1] := by decide +kernel
@[sl_canon] theorem canon56o (t : Fin grid0.N) (h : ∀ a, (k0_off56 (grid0.coords t)) a + S1x1.size a ≤ S2x5.size a) :
    (cc0_scratch3.slice (Rect.unit (s := S2x5) (k0_off56 (grid0.coords t)) S1x1.size h)).squeeze S_ squeezes_S1x1_S_ = outCell (slotAt (t.val + 1)) 1 :=
  congrArg (fun A : DmaSems sig S1x1 => A.squeeze S_ squeezes_S1x1_S_) (SemArray.slice_unit_congr _ (off56_eq t) _ (inb_cell _ _)) |>.trans (outCell_eq _ 1).symm
theorem off60_eq : ∀ t : Fin grid0.N, k0_off60 (grid0.coords t) = ![(slotAt (t.val + 1)).val, 2] := by decide +kernel
@[sl_canon] theorem canon60o (t : Fin grid0.N) (h : ∀ a, (k0_off60 (grid0.coords t)) a + S1x1.size a ≤ S2x5.size a) :
    (cc0_scratch3.slice (Rect.unit (s := S2x5) (k0_off60 (grid0.coords t)) S1x1.size h)).squeeze S_ squeezes_S1x1_S_ = outCell (slotAt (t.val + 1)) 2 :=
  congrArg (fun A : DmaSems sig S1x1 => A.squeeze S_ squeezes_S1x1_S_) (SemArray.slice_unit_congr _ (off60_eq t) _ (inb_cell _ _)) |>.trans (outCell_eq _ 2).symm
theorem off64_eq : ∀ t : Fin grid0.N, k0_off64 (grid0.coords t) = ![(slotAt (t.val + 1)).val, 3] := by decide +kernel
@[sl_canon] theorem canon64o (t : Fin grid0.N) (h : ∀ a, (k0_off64 (grid0.coords t)) a + S1x1.size a ≤ S2x5.size a) :
    (cc0_scratch3.slice (Rect.unit (s := S2x5) (k0_off64 (grid0.coords t)) S1x1.size h)).squeeze S_ squeezes_S1x1_S_ = outCell (slotAt (t.val + 1)) 3 :=
  congrArg (fun A : DmaSems sig S1x1 => A.squeeze S_ squeezes_S1x1_S_) (SemArray.slice_unit_congr _ (off64_eq t) _ (inb_cell _ _)) |>.trans (outCell_eq _ 3).symm
theorem off68_eq : ∀ t : Fin grid0.N, k0_off68 (grid0.coords t) = ![(slotAt (t.val + 1)).val, 4] := by decide +kernel
@[sl_canon] theorem canon68o (t : Fin grid0.N) (h : ∀ a, (k0_off68 (grid0.coords t)) a + S1x1.size a ≤ S2x5.size a) :
    (cc0_scratch3.slice (Rect.unit (s := S2x5) (k0_off68 (grid0.coords t)) S1x1.size h)).squeeze S_ squeezes_S1x1_S_ = outCell (slotAt (t.val + 1)) 4 :=
  congrArg (fun A : DmaSems sig S1x1 => A.squeeze S_ squeezes_S1x1_S_) (SemArray.slice_unit_congr _ (off68_eq t) _ (inb_cell _ _)) |>.trans (outCell_eq _ 4).symm
theorem off52_eq : ∀ t : Fin grid0.N, k0_off52 (grid0.coords t) = ![(slotAt (t.val + 1)).val, 0, 0] := by decide +kernel
@[sl_canon] theorem canon52 (t : Fin grid0.N) (h : ∀ a, (k0_off52 (grid0.coords t)) a + S1x2000x132.size a ≤ S2x10000x132.size a) :
    (outM.slice (Rect.unit (s := S2x10000x132) (k0_off52 (grid0.coords t)) S1x2000x132.size h) (fun _ => rfl)).squeeze S2000x132 squeezes_S1x2000x132_S2000x132 = outTile (slotAt (t.val + 1)) 0 :=
  congrArg (fun M : Memref sig .tc .vmem S1x2000x132 .f32 => M.squeeze S2000x132 squeezes_S1x2000x132_S2000x132) (Memref.slice_unit_congr _ (off52_eq t) _ _ (fun _ => rfl) (fun _ => rfl))
theorem off57_eq : ∀ t : Fin grid0.N, k0_off57 (grid0.coords t) = ![(slotAt (t.val + 1)).val, 2000, 0] := by decide +kernel
@[sl_canon] theorem canon57 (t : Fin grid0.N) (h : ∀ a, (k0_off57 (grid0.coords t)) a + S1x2000x132.size a ≤ S2x10000x132.size a) :
    (outM.slice (Rect.unit (s := S2x10000x132) (k0_off57 (grid0.coords t)) S1x2000x132.size h) (fun _ => rfl)).squeeze S2000x132 squeezes_S1x2000x132_S2000x132 = outTile (slotAt (t.val + 1)) 1 :=
  congrArg (fun M : Memref sig .tc .vmem S1x2000x132 .f32 => M.squeeze S2000x132 squeezes_S1x2000x132_S2000x132) (Memref.slice_unit_congr _ (off57_eq t) _ _ (fun _ => rfl) (fun _ => rfl))
theorem off61_eq : ∀ t : Fin grid0.N, k0_off61 (grid0.coords t) = ![(slotAt (t.val + 1)).val, 4000, 0] := by decide +kernel
@[sl_canon] theorem canon61 (t : Fin grid0.N) (h : ∀ a, (k0_off61 (grid0.coords t)) a + S1x2000x132.size a ≤ S2x10000x132.size a) :
    (outM.slice (Rect.unit (s := S2x10000x132) (k0_off61 (grid0.coords t)) S1x2000x132.size h) (fun _ => rfl)).squeeze S2000x132 squeezes_S1x2000x132_S2000x132 = outTile (slotAt (t.val + 1)) 2 :=
  congrArg (fun M : Memref sig .tc .vmem S1x2000x132 .f32 => M.squeeze S2000x132 squeezes_S1x2000x132_S2000x132) (Memref.slice_unit_congr _ (off61_eq t) _ _ (fun _ => rfl) (fun _ => rfl))
theorem off65_eq : ∀ t : Fin grid0.N, k0_off65 (grid0.coords t) = ![(slotAt (t.val + 1)).val, 6000, 0] := by decide +kernel
@[sl_canon] theorem canon65 (t : Fin grid0.N) (h : ∀ a, (k0_off65 (grid0.coords t)) a + S1x2000x132.size a ≤ S2x10000x132.size a) :
    (outM.slice (Rect.unit (s := S2x10000x132) (k0_off65 (grid0.coords t)) S1x2000x132.size h) (fun _ => rfl)).squeeze S2000x132 squeezes_S1x2000x132_S2000x132 = outTile (slotAt (t.val + 1)) 3 :=
  congrArg (fun M : Memref sig .tc .vmem S1x2000x132 .f32 => M.squeeze S2000x132 squeezes_S1x2000x132_S2000x132) (Memref.slice_unit_congr _ (off65_eq t) _ _ (fun _ => rfl) (fun _ => rfl))
theorem off69_eq : ∀ t : Fin grid0.N, k0_off69 (grid0.coords t) = ![(slotAt (t.val + 1)).val, 8000, 0] := by decide +kernel
@[sl_canon] theorem canon69 (t : Fin grid0.N) (h : ∀ a, (k0_off69 (grid0.coords t)) a + S1x2000x132.size a ≤ S2x10000x132.size a) :
    (outM.slice (Rect.unit (s := S2x10000x132) (k0_off69 (grid0.coords t)) S1x2000x132.size h) (fun _ => rfl)).squeeze S2000x132 squeezes_S1x2000x132_S2000x132 = outTile (slotAt (t.val + 1)) 4 :=
  congrArg (fun M : Memref sig .tc .vmem S1x2000x132 .f32 => M.squeeze S2000x132 squeezes_S1x2000x132_S2000x132) (Memref.slice_unit_congr _ (off69_eq t) _ _ (fun _ => rfl) (fun _ => rfl))
theorem off51_0_eq : ∀ t : Fin grid0.N, k0_cond11 (grid0.coords t) = 1#1 → k0_off51 (grid0.coords t) 0#32 = ![10000 * (blockAt (t.val - 1)).val + 0, 0] := by decide +kernel
@[sl_canon] theorem canon51_0 (t : Fin grid0.N) (hc : k0_cond11 (grid0.coords t) = 1#1) (h : ∀ a, (k0_off51 (grid0.coords t) 0#32) a + S2000x132.size a ≤ S100000x132.size a) :
    resM.slice (Rect.unit (s := S100000x132) (k0_off51 (grid0.coords t) 0#32) S2000x132.size h) (fun _ => rfl) = piece (blockAt (t.val - 1)) 0 :=
  Memref.slice_unit_congr _ (off51_0_eq t hc) _ _ (fun _ => rfl) (fun _ => rfl)
theorem off51_1_eq : ∀ t : Fin grid0.N, k0_cond11 (grid0.coords t) = 1#1 → k0_off51 (grid0.coords t) 2000#32 = ![10000 * (blockAt (t.val - 1)).val + 2000, 0] := by decide +kernel
@[sl_canon] theorem canon51_1 (t : Fin grid0.N) (hc : k0_cond11 (grid0.coords t) = 1#1) (h : ∀ a, (k0_off51 (grid0.coords t) 2000#32) a + S2000x132.size a ≤ S100000x132.size a) :
    resM.slice (Rect.unit (s := S100000x132) (k0_off51 (grid0.coords t) 2000#32) S2000x132.size h) (fun _ => rfl) = piece (blockAt (t.val - 1)) 1 :=
  Memref.slice_unit_congr _ (off51_1_eq t hc) _ _ (fun _ => rfl) (fun _ => rfl)
theorem off51_2_eq : ∀ t : Fin grid0.N, k0_cond11 (grid0.coords t) = 1#1 → k0_off51 (grid0.coords t) 4000#32 = ![10000 * (blockAt (t.val - 1)).val + 4000, 0] := by decide +kernel
@[sl_canon] theorem canon51_2 (t : Fin grid0.N) (hc : k0_cond11 (grid0.coords t) = 1#1) (h : ∀ a, (k0_off51 (grid0.coords t) 4000#32) a + S2000x132.size a ≤ S100000x132.size a) :
    resM.slice (Rect.unit (s := S100000x132) (k0_off51 (grid0.coords t) 4000#32) S2000x132.size h) (fun _ => rfl) = piece (blockAt (t.val - 1)) 2 :=
  Memref.slice_unit_congr _ (off51_2_eq t hc) _ _ (fun _ => rfl) (fun _ => rfl)
theorem off51_3_eq : ∀ t : Fin grid0.N, k0_cond11 (grid0.coords t) = 1#1 → k0_off51 (grid0.coords t) 6000#32 = ![10000 * (blockAt (t.val - 1)).val + 6000, 0] := by decide +kernel
@[sl_canon] theorem canon51_3 (t : Fin grid0.N) (hc : k0_cond11 (grid0.coords t) = 1#1) (h : ∀ a, (k0_off51 (grid0.coords t) 6000#32) a + S2000x132.size a ≤ S100000x132.size a) :
    resM.slice (Rect.unit (s := S100000x132) (k0_off51 (grid0.coords t) 6000#32) S2000x132.size h) (fun _ => rfl) = piece (blockAt (t.val - 1)) 3 :=
  Memref.slice_unit_congr _ (off51_3_eq t hc) _ _ (fun _ => rfl) (fun _ => rfl)
theorem off51_4_eq : ∀ t : Fin grid0.N, k0_cond11 (grid0.coords t) = 1#1 → k0_off51 (grid0.coords t) 8000#32 = ![10000 * (blockAt (t.val - 1)).val + 8000, 0] := by decide +kernel
@[sl_canon] theorem canon51_4 (t : Fin grid0.N) (hc : k0_cond11 (grid0.coords t) = 1#1) (h : ∀ a, (k0_off51 (grid0.coords t) 8000#32) a + S2000x132.size a ≤ S100000x132.size a) :
    resM.slice (Rect.unit (s := S100000x132) (k0_off51 (grid0.coords t) 8000#32) S2000x132.size h) (fun _ => rfl) = piece (blockAt (t.val - 1)) 4 :=
  Memref.slice_unit_congr _ (off51_4_eq t hc) _ _ (fun _ => rfl) (fun _ => rfl)
theorem off53_eq : ∀ t : Fin grid0.N, k0_off53 (grid0.coords t) = ![(slotAt t.val).val, 0] := by decide +kernel
@[sl_canon] theorem canon53o (t : Fin grid0.N) (h : ∀ a, (k0_off53 (grid0.coords t)) a + S1x1.size a ≤ S2x5.size a) :
    (cc0_scratch3.slice (Rect.unit (s := S2x5) (k0_off53 (grid0.coords t)) S1x1.size h)).squeeze S_ squeezes_S1x1_S_ = outCell (slotAt t.val) 0 :=
  congrArg (fun A : DmaSems sig S1x1 => A.squeeze S_ squeezes_S1x1_S_) (SemArray.slice_unit_congr _ (off53_eq t) _ (inb_cell _ _)) |>.trans (outCell_eq _ 0).symm
theorem off58_eq : ∀ t : Fin grid0.N, k0_off58 (grid0.coords t) = ![(slotAt t.val).val, 1] := by decide +kernel
@[sl_canon] theorem canon58o (t : Fin grid0.N) (h : ∀ a, (k0_off58 (grid0.coords t)) a + S1x1.size a ≤ S2x5.size a) :
    (cc0_scratch3.slice (Rect.unit (s := S2x5) (k0_off58 (grid0.coords t)) S1x1.size h)).squeeze S_ squeezes_S1x1_S_ = outCell (slotAt t.val) 1 :=
  congrArg (fun A : DmaSems sig S1x1 => A.squeeze S_ squeezes_S1x1_S_) (SemArray.slice_unit_congr _ (off58_eq t) _ (inb_cell _ _)) |>.trans (outCell_eq _ 1).symm
theorem off62_eq : ∀ t : Fin grid0.N, k0_off62 (grid0.coords t) = ![(slotAt t.val).val, 2] := by decide +kernel
@[sl_canon] theorem canon62o (t : Fin grid0.N) (h : ∀ a, (k0_off62 (grid0.coords t)) a + S1x1.size a ≤ S2x5.size a) :
    (cc0_scratch3.slice (Rect.unit (s := S2x5) (k0_off62 (grid0.coords t)) S1x1.size h)).squeeze S_ squeezes_S1x1_S_ = outCell (slotAt t.val) 2 :=
  congrArg (fun A : DmaSems sig S1x1 => A.squeeze S_ squeezes_S1x1_S_) (SemArray.slice_unit_congr _ (off62_eq t) _ (inb_cell _ _)) |>.trans (outCell_eq _ 2).symm
theorem off66_eq : ∀ t : Fin grid0.N, k0_off66 (grid0.coords t) = ![(slotAt t.val).val, 3] := by decide +kernel
@[sl_canon] theorem canon66o (t : Fin grid0.N) (h : ∀ a, (k0_off66 (grid0.coords t)) a + S1x1.size a ≤ S2x5.size a) :
    (cc0_scratch3.slice (Rect.unit (s := S2x5) (k0_off66 (grid0.coords t)) S1x1.size h)).squeeze S_ squeezes_S1x1_S_ = outCell (slotAt t.val) 3 :=
  congrArg (fun A : DmaSems sig S1x1 => A.squeeze S_ squeezes_S1x1_S_) (SemArray.slice_unit_congr _ (off66_eq t) _ (inb_cell _ _)) |>.trans (outCell_eq _ 3).symm
theorem off70_eq : ∀ t : Fin grid0.N, k0_off70 (grid0.coords t) = ![(slotAt t.val).val, 4] := by decide +kernel
@[sl_canon] theorem canon70o (t : Fin grid0.N) (h : ∀ a, (k0_off70 (grid0.coords t)) a + S1x1.size a ≤ S2x5.size a) :
    (cc0_scratch3.slice (Rect.unit (s := S2x5) (k0_off70 (grid0.coords t)) S1x1.size h)).squeeze S_ squeezes_S1x1_S_ = outCell (slotAt t.val) 4 :=
  congrArg (fun A : DmaSems sig S1x1 => A.squeeze S_ squeezes_S1x1_S_) (SemArray.slice_unit_congr _ (off70_eq t) _ (inb_cell _ _)) |>.trans (outCell_eq _ 4).symm
theorem off55_eq : ∀ t : Fin grid0.N, k0_off55 (grid0.coords t) = ![(slotAt t.val).val, 0, 0] := by decide +kernel
@[sl_canon] theorem canon55 (t : Fin grid0.N) (h : ∀ a, (k0_off55 (grid0.coords t)) a + S1x2000x132.size a ≤ S2x10000x132.size a) :
    (outM.slice (Rect.unit (s := S2x10000x132) (k0_off55 (grid0.coords t)) S1x2000x132.size h) (fun _ => rfl)).squeeze S2000x132 squeezes_S1x2000x132_S2000x132 = outTile (slotAt t.val) 0 :=
  congrArg (fun M : Memref sig .tc .vmem S1x2000x132 .f32 => M.squeeze S2000x132 squeezes_S1x2000x132_S2000x132) (Memref.slice_unit_congr _ (off55_eq t) _ _ (fun _ => rfl) (fun _ => rfl))
theorem off59_eq : ∀ t : Fin grid0.N, k0_off59 (grid0.coords t) = ![(slotAt t.val).val, 2000, 0] := by decide +kernel
@[sl_canon] theorem canon59 (t : Fin grid0.N) (h : ∀ a, (k0_off59 (grid0.coords t)) a + S1x2000x132.size a ≤ S2x10000x132.size a) :
    (outM.slice (Rect.unit (s := S2x10000x132) (k0_off59 (grid0.coords t)) S1x2000x132.size h) (fun _ => rfl)).squeeze S2000x132 squeezes_S1x2000x132_S2000x132 = outTile (slotAt t.val) 1 :=
  congrArg (fun M : Memref sig .tc .vmem S1x2000x132 .f32 => M.squeeze S2000x132 squeezes_S1x2000x132_S2000x132) (Memref.slice_unit_congr _ (off59_eq t) _ _ (fun _ => rfl) (fun _ => rfl))
theorem off63_eq : ∀ t : Fin grid0.N, k0_off63 (grid0.coords t) = ![(slotAt t.val).val, 4000, 0] := by decide +kernel
@[sl_canon] theorem canon63 (t : Fin grid0.N) (h : ∀ a, (k0_off63 (grid0.coords t)) a + S1x2000x132.size a ≤ S2x10000x132.size a) :
    (outM.slice (Rect.unit (s := S2x10000x132) (k0_off63 (grid0.coords t)) S1x2000x132.size h) (fun _ => rfl)).squeeze S2000x132 squeezes_S1x2000x132_S2000x132 = outTile (slotAt t.val) 2 :=
  congrArg (fun M : Memref sig .tc .vmem S1x2000x132 .f32 => M.squeeze S2000x132 squeezes_S1x2000x132_S2000x132) (Memref.slice_unit_congr _ (off63_eq t) _ _ (fun _ => rfl) (fun _ => rfl))
theorem off67_eq : ∀ t : Fin grid0.N, k0_off67 (grid0.coords t) = ![(slotAt t.val).val, 6000, 0] := by decide +kernel
@[sl_canon] theorem canon67 (t : Fin grid0.N) (h : ∀ a, (k0_off67 (grid0.coords t)) a + S1x2000x132.size a ≤ S2x10000x132.size a) :
    (outM.slice (Rect.unit (s := S2x10000x132) (k0_off67 (grid0.coords t)) S1x2000x132.size h) (fun _ => rfl)).squeeze S2000x132 squeezes_S1x2000x132_S2000x132 = outTile (slotAt t.val) 3 :=
  congrArg (fun M : Memref sig .tc .vmem S1x2000x132 .f32 => M.squeeze S2000x132 squeezes_S1x2000x132_S2000x132) (Memref.slice_unit_congr _ (off67_eq t) _ _ (fun _ => rfl) (fun _ => rfl))
theorem off71_eq : ∀ t : Fin grid0.N, k0_off71 (grid0.coords t) = ![(slotAt t.val).val, 8000, 0] := by decide +kernel
@[sl_canon] theorem canon71 (t : Fin grid0.N) (h : ∀ a, (k0_off71 (grid0.coords t)) a + S1x2000x132.size a ≤ S2x10000x132.size a) :
    (outM.slice (Rect.unit (s := S2x10000x132) (k0_off71 (grid0.coords t)) S1x2000x132.size h) (fun _ => rfl)).squeeze S2000x132 squeezes_S1x2000x132_S2000x132 = outTile (slotAt t.val) 4 :=
  congrArg (fun M : Memref sig .tc .vmem S1x2000x132 .f32 => M.squeeze S2000x132 squeezes_S1x2000x132_S2000x132) (Memref.slice_unit_congr _ (off71_eq t) _ _ (fun _ => rfl) (fun _ => rfl))
theorem off54_0_eq : ∀ t : Fin grid0.N, k0_cond11 (grid0.coords t) = 1#1 → k0_off54 (grid0.coords t) 0#32 = ![10000 * (blockAt t.val).val + 0, 0] := by decide +kernel
@[sl_canon] theorem canon54_0 (t : Fin grid0.N) (hc : k0_cond11 (grid0.coords t) = 1#1) (h : ∀ a, (k0_off54 (grid0.coords t) 0#32) a + S2000x132.size a ≤ S100000x132.size a) :
    resM.slice (Rect.unit (s := S100000x132) (k0_off54 (grid0.coords t) 0#32) S2000x132.size h) (fun _ => rfl) = piece (blockAt t.val) 0 :=
  Memref.slice_unit_congr _ (off54_0_eq t hc) _ _ (fun _ => rfl) (fun _ => rfl)
theorem off54_1_eq : ∀ t : Fin grid0.N, k0_cond11 (grid0.coords t) = 1#1 → k0_off54 (grid0.coords t) 2000#32 = ![10000 * (blockAt t.val).val + 2000, 0] := by decide +kernel
@[sl_canon] theorem canon54_1 (t : Fin grid0.N) (hc : k0_cond11 (grid0.coords t) = 1#1) (h : ∀ a, (k0_off54 (grid0.coords t) 2000#32) a + S2000x132.size a ≤ S100000x132.size a) :
    resM.slice (Rect.unit (s := S100000x132) (k0_off54 (grid0.coords t) 2000#32) S2000x132.size h) (fun _ => rfl) = piece (blockAt t.val) 1 :=
  Memref.slice_unit_congr _ (off54_1_eq t hc) _ _ (fun _ => rfl) (fun _ => rfl)
theorem off54_2_eq : ∀ t : Fin grid0.N, k0_cond11 (grid0.coords t) = 1#1 → k0_off54 (grid0.coords t) 4000#32 = ![10000 * (blockAt t.val).val + 4000, 0] := by decide +kernel
@[sl_canon] theorem canon54_2 (t : Fin grid0.N) (hc : k0_cond11 (grid0.coords t) = 1#1) (h : ∀ a, (k0_off54 (grid0.coords t) 4000#32) a + S2000x132.size a ≤ S100000x132.size a) :
    resM.slice (Rect.unit (s := S100000x132) (k0_off54 (grid0.coords t) 4000#32) S2000x132.size h) (fun _ => rfl) = piece (blockAt t.val) 2 :=
  Memref.slice_unit_congr _ (off54_2_eq t hc) _ _ (fun _ => rfl) (fun _ => rfl)
theorem off54_3_eq : ∀ t : Fin grid0.N, k0_cond11 (grid0.coords t) = 1#1 → k0_off54 (grid0.coords t) 6000#32 = ![10000 * (blockAt t.val).val + 6000, 0] := by decide +kernel
@[sl_canon] theorem canon54_3 (t : Fin grid0.N) (hc : k0_cond11 (grid0.coords t) = 1#1) (h : ∀ a, (k0_off54 (grid0.coords t) 6000#32) a + S2000x132.size a ≤ S100000x132.size a) :
    resM.slice (Rect.unit (s := S100000x132) (k0_off54 (grid0.coords t) 6000#32) S2000x132.size h) (fun _ => rfl) = piece (blockAt t.val) 3 :=
  Memref.slice_unit_congr _ (off54_3_eq t hc) _ _ (fun _ => rfl) (fun _ => rfl)
theorem off54_4_eq : ∀ t : Fin grid0.N, k0_cond11 (grid0.coords t) = 1#1 → k0_off54 (grid0.coords t) 8000#32 = ![10000 * (blockAt t.val).val + 8000, 0] := by decide +kernel
@[sl_canon] theorem canon54_4 (t : Fin grid0.N) (hc : k0_cond11 (grid0.coords t) = 1#1) (h : ∀ a, (k0_off54 (grid0.coords t) 8000#32) a + S2000x132.size a ≤ S100000x132.size a) :
    resM.slice (Rect.unit (s := S100000x132) (k0_off54 (grid0.coords t) 8000#32) S2000x132.size h) (fun _ => rfl) = piece (blockAt t.val) 4 :=
  Memref.slice_unit_congr _ (off54_4_eq t hc) _ _ (fun _ => rfl) (fun _ => rfl)

/-! ## The first point's copies in, at literal offsets -/

theorem boot0 : ∀ t : Fin grid0.N, condBoot (grid0.coords t) → ((![0, 0, 0] : Fin 3 → Nat) = ![(slotAt t.val).val, 0, 0] ∧ (![0, 0] : Fin 2 → Nat) = ![10000 * (blockAt t.val).val + 0, 0] ∧ (![0, 0] : Fin 2 → Nat) = ![(slotAt t.val).val, 0]) := by decide +kernel
@[sl_canon] theorem canonBootTile0 (t : Fin grid0.N) (hc : condBoot (grid0.coords t)) (h : ∀ a, (![0, 0, 0] : Fin 3 → Nat) a + S1x2000x128.size a ≤ S2x10000x128.size a) :
    (inM.slice (Rect.unit (s := S2x10000x128) ![0, 0, 0] S1x2000x128.size h) (fun _ => rfl)).squeeze S2000x128 squeezes_S1x2000x128_S2000x128 = inTile (slotAt t.val) 0 :=
  congrArg (fun M : Memref sig .tc .vmem S1x2000x128 .f32 => M.squeeze S2000x128 squeezes_S1x2000x128_S2000x128) (Memref.slice_unit_congr _ (boot0 t hc).1 _ _ (fun _ => rfl) (fun _ => rfl))
@[sl_canon] theorem canonBootSrc0 (t : Fin grid0.N) (hc : condBoot (grid0.coords t)) (h : ∀ a, (![0, 0] : Fin 2 → Nat) a + S2000x128.size a ≤ S100000x128.size a) :
    xM.slice (Rect.unit (s := S100000x128) ![0, 0] S2000x128.size h) (fun _ => rfl) = src (blockAt t.val) 0 :=
  Memref.slice_unit_congr _ (boot0 t hc).2.1 _ _ (fun _ => rfl) (fun _ => rfl)
@[sl_canon] theorem canonBootCell0 (t : Fin grid0.N) (hc : condBoot (grid0.coords t)) (h : ∀ a, (![0, 0] : Fin 2 → Nat) a + S1x1.size a ≤ S2x5.size a) :
    (cc0_scratch2.slice (Rect.unit (s := S2x5) ![0, 0] S1x1.size h)).squeeze S_ squeezes_S1x1_S_ = inCell (slotAt t.val) 0 :=
  congrArg (fun A : DmaSems sig S1x1 => A.squeeze S_ squeezes_S1x1_S_) (SemArray.slice_unit_congr _ (boot0 t hc).2.2 _ (inb_cell _ _)) |>.trans (inCell_eq _ 0).symm
theorem boot1 : ∀ t : Fin grid0.N, condBoot (grid0.coords t) → ((![0, 2000, 0] : Fin 3 → Nat) = ![(slotAt t.val).val, 2000, 0] ∧ (![2000, 0] : Fin 2 → Nat) = ![10000 * (blockAt t.val).val + 2000, 0] ∧ (![0, 1] : Fin 2 → Nat) = ![(slotAt t.val).val, 1]) := by decide +kernel
@[sl_canon] theorem canonBootTile1 (t : Fin grid0.N) (hc : condBoot (grid0.coords t)) (h : ∀ a, (![0, 2000, 0] : Fin 3 → Nat) a + S1x2000x128.size a ≤ S2x10000x128.size a) :
    (inM.slice (Rect.unit (s := S2x10000x128) ![0, 2000, 0] S1x2000x128.size h) (fun _ => rfl)).squeeze S2000x128 squeezes_S1x2000x128_S2000x128 = inTile (slotAt t.val) 1 :=
  congrArg (fun M : Memref sig .tc .vmem S1x2000x128 .f32 => M.squeeze S2000x128 squeezes_S1x2000x128_S2000x128) (Memref.slice_unit_congr _ (boot1 t hc).1 _ _ (fun _ => rfl) (fun _ => rfl))
@[sl_canon] theorem canonBootSrc1 (t : Fin grid0.N) (hc : condBoot (grid0.coords t)) (h : ∀ a, (![2000, 0] : Fin 2 → Nat) a + S2000x128.size a ≤ S100000x128.size a) :
    xM.slice (Rect.unit (s := S100000x128) ![2000, 0] S2000x128.size h) (fun _ => rfl) = src (blockAt t.val) 1 :=
  Memref.slice_unit_congr _ (boot1 t hc).2.1 _ _ (fun _ => rfl) (fun _ => rfl)
@[sl_canon] theorem canonBootCell1 (t : Fin grid0.N) (hc : condBoot (grid0.coords t)) (h : ∀ a, (![0, 1] : Fin 2 → Nat) a + S1x1.size a ≤ S2x5.size a) :
    (cc0_scratch2.slice (Rect.unit (s := S2x5) ![0, 1] S1x1.size h)).squeeze S_ squeezes_S1x1_S_ = inCell (slotAt t.val) 1 :=
  congrArg (fun A : DmaSems sig S1x1 => A.squeeze S_ squeezes_S1x1_S_) (SemArray.slice_unit_congr _ (boot1 t hc).2.2 _ (inb_cell _ _)) |>.trans (inCell_eq _ 1).symm
theorem boot2 : ∀ t : Fin grid0.N, condBoot (grid0.coords t) → ((![0, 4000, 0] : Fin 3 → Nat) = ![(slotAt t.val).val, 4000, 0] ∧ (![4000, 0] : Fin 2 → Nat) = ![10000 * (blockAt t.val).val + 4000, 0] ∧ (![0, 2] : Fin 2 → Nat) = ![(slotAt t.val).val, 2]) := by decide +kernel
@[sl_canon] theorem canonBootTile2 (t : Fin grid0.N) (hc : condBoot (grid0.coords t)) (h : ∀ a, (![0, 4000, 0] : Fin 3 → Nat) a + S1x2000x128.size a ≤ S2x10000x128.size a) :
    (inM.slice (Rect.unit (s := S2x10000x128) ![0, 4000, 0] S1x2000x128.size h) (fun _ => rfl)).squeeze S2000x128 squeezes_S1x2000x128_S2000x128 = inTile (slotAt t.val) 2 :=
  congrArg (fun M : Memref sig .tc .vmem S1x2000x128 .f32 => M.squeeze S2000x128 squeezes_S1x2000x128_S2000x128) (Memref.slice_unit_congr _ (boot2 t hc).1 _ _ (fun _ => rfl) (fun _ => rfl))
@[sl_canon] theorem canonBootSrc2 (t : Fin grid0.N) (hc : condBoot (grid0.coords t)) (h : ∀ a, (![4000, 0] : Fin 2 → Nat) a + S2000x128.size a ≤ S100000x128.size a) :
    xM.slice (Rect.unit (s := S100000x128) ![4000, 0] S2000x128.size h) (fun _ => rfl) = src (blockAt t.val) 2 :=
  Memref.slice_unit_congr _ (boot2 t hc).2.1 _ _ (fun _ => rfl) (fun _ => rfl)
@[sl_canon] theorem canonBootCell2 (t : Fin grid0.N) (hc : condBoot (grid0.coords t)) (h : ∀ a, (![0, 2] : Fin 2 → Nat) a + S1x1.size a ≤ S2x5.size a) :
    (cc0_scratch2.slice (Rect.unit (s := S2x5) ![0, 2] S1x1.size h)).squeeze S_ squeezes_S1x1_S_ = inCell (slotAt t.val) 2 :=
  congrArg (fun A : DmaSems sig S1x1 => A.squeeze S_ squeezes_S1x1_S_) (SemArray.slice_unit_congr _ (boot2 t hc).2.2 _ (inb_cell _ _)) |>.trans (inCell_eq _ 2).symm
theorem boot3 : ∀ t : Fin grid0.N, condBoot (grid0.coords t) → ((![0, 6000, 0] : Fin 3 → Nat) = ![(slotAt t.val).val, 6000, 0] ∧ (![6000, 0] : Fin 2 → Nat) = ![10000 * (blockAt t.val).val + 6000, 0] ∧ (![0, 3] : Fin 2 → Nat) = ![(slotAt t.val).val, 3]) := by decide +kernel
@[sl_canon] theorem canonBootTile3 (t : Fin grid0.N) (hc : condBoot (grid0.coords t)) (h : ∀ a, (![0, 6000, 0] : Fin 3 → Nat) a + S1x2000x128.size a ≤ S2x10000x128.size a) :
    (inM.slice (Rect.unit (s := S2x10000x128) ![0, 6000, 0] S1x2000x128.size h) (fun _ => rfl)).squeeze S2000x128 squeezes_S1x2000x128_S2000x128 = inTile (slotAt t.val) 3 :=
  congrArg (fun M : Memref sig .tc .vmem S1x2000x128 .f32 => M.squeeze S2000x128 squeezes_S1x2000x128_S2000x128) (Memref.slice_unit_congr _ (boot3 t hc).1 _ _ (fun _ => rfl) (fun _ => rfl))
@[sl_canon] theorem canonBootSrc3 (t : Fin grid0.N) (hc : condBoot (grid0.coords t)) (h : ∀ a, (![6000, 0] : Fin 2 → Nat) a + S2000x128.size a ≤ S100000x128.size a) :
    xM.slice (Rect.unit (s := S100000x128) ![6000, 0] S2000x128.size h) (fun _ => rfl) = src (blockAt t.val) 3 :=
  Memref.slice_unit_congr _ (boot3 t hc).2.1 _ _ (fun _ => rfl) (fun _ => rfl)
@[sl_canon] theorem canonBootCell3 (t : Fin grid0.N) (hc : condBoot (grid0.coords t)) (h : ∀ a, (![0, 3] : Fin 2 → Nat) a + S1x1.size a ≤ S2x5.size a) :
    (cc0_scratch2.slice (Rect.unit (s := S2x5) ![0, 3] S1x1.size h)).squeeze S_ squeezes_S1x1_S_ = inCell (slotAt t.val) 3 :=
  congrArg (fun A : DmaSems sig S1x1 => A.squeeze S_ squeezes_S1x1_S_) (SemArray.slice_unit_congr _ (boot3 t hc).2.2 _ (inb_cell _ _)) |>.trans (inCell_eq _ 3).symm
theorem boot4 : ∀ t : Fin grid0.N, condBoot (grid0.coords t) → ((![0, 8000, 0] : Fin 3 → Nat) = ![(slotAt t.val).val, 8000, 0] ∧ (![8000, 0] : Fin 2 → Nat) = ![10000 * (blockAt t.val).val + 8000, 0] ∧ (![0, 4] : Fin 2 → Nat) = ![(slotAt t.val).val, 4]) := by decide +kernel
@[sl_canon] theorem canonBootTile4 (t : Fin grid0.N) (hc : condBoot (grid0.coords t)) (h : ∀ a, (![0, 8000, 0] : Fin 3 → Nat) a + S1x2000x128.size a ≤ S2x10000x128.size a) :
    (inM.slice (Rect.unit (s := S2x10000x128) ![0, 8000, 0] S1x2000x128.size h) (fun _ => rfl)).squeeze S2000x128 squeezes_S1x2000x128_S2000x128 = inTile (slotAt t.val) 4 :=
  congrArg (fun M : Memref sig .tc .vmem S1x2000x128 .f32 => M.squeeze S2000x128 squeezes_S1x2000x128_S2000x128) (Memref.slice_unit_congr _ (boot4 t hc).1 _ _ (fun _ => rfl) (fun _ => rfl))
@[sl_canon] theorem canonBootSrc4 (t : Fin grid0.N) (hc : condBoot (grid0.coords t)) (h : ∀ a, (![8000, 0] : Fin 2 → Nat) a + S2000x128.size a ≤ S100000x128.size a) :
    xM.slice (Rect.unit (s := S100000x128) ![8000, 0] S2000x128.size h) (fun _ => rfl) = src (blockAt t.val) 4 :=
  Memref.slice_unit_congr _ (boot4 t hc).2.1 _ _ (fun _ => rfl) (fun _ => rfl)
@[sl_canon] theorem canonBootCell4 (t : Fin grid0.N) (hc : condBoot (grid0.coords t)) (h : ∀ a, (![0, 4] : Fin 2 → Nat) a + S1x1.size a ≤ S2x5.size a) :
    (cc0_scratch2.slice (Rect.unit (s := S2x5) ![0, 4] S1x1.size h)).squeeze S_ squeezes_S1x1_S_ = inCell (slotAt t.val) 4 :=
  congrArg (fun A : DmaSems sig S1x1 => A.squeeze S_ squeezes_S1x1_S_) (SemArray.slice_unit_congr _ (boot4 t hc).2.2 _ (inb_cell _ _)) |>.trans (inCell_eq _ 4).symm

/-! ## The accesses inside a slot -/

theorem off34_eq : ∀ t : Fin grid0.N, k0_off34 (grid0.coords t) = ![(slotAt t.val).val, 0, 0] := by decide +kernel
theorem off35_eq : ∀ t : Fin grid0.N, k0_off35 (grid0.coords t) = ![(slotAt t.val).val, 0, 0] := by decide +kernel
theorem off36_eq : ∀ t : Fin grid0.N, k0_off36 (grid0.coords t) = ![(slotAt t.val).val, 0, 128] := by decide +kernel
instance (priority := high) closed34 (t : Fin grid0.N) : ClosedOff (k0_off34 (grid0.coords t)) := ⟨![(slotAt t.val).val, 0, 0], off34_eq t⟩
instance (priority := high) closed35 (t : Fin grid0.N) : ClosedOff (k0_off35 (grid0.coords t)) := ⟨![(slotAt t.val).val, 0, 0], off35_eq t⟩
instance (priority := high) closed36 (t : Fin grid0.N) : ClosedOff (k0_off36 (grid0.coords t)) := ⟨![(slotAt t.val).val, 0, 128], off36_eq t⟩
theorem off37_eq : ∀ t : Fin grid0.N, t.val = 0 → k0_off37 (grid0.coords t) = ![(slotAt t.val).val, 1000, 128] := by decide +kernel
instance (priority := high) closed37 (t : Fin grid0.N) [hf : Fact (condBoot (grid0.coords t))] : ClosedOff (k0_off37 (grid0.coords t)) :=
  ⟨![(slotAt t.val).val, 1000, 128], off37_eq t ((condBoot_iff t).1 hf.out)⟩
theorem off38_eq : ∀ t : Fin grid0.N, t.val = 0 → k0_off38 (grid0.coords t) = ![(slotAt t.val).val, 2000, 128] := by decide +kernel
instance (priority := high) closed38 (t : Fin grid0.N) [hf : Fact (condBoot (grid0.coords t))] : ClosedOff (k0_off38 (grid0.coords t)) :=
  ⟨![(slotAt t.val).val, 2000, 128], off38_eq t ((condBoot_iff t).1 hf.out)⟩
theorem off39_eq : ∀ t : Fin grid0.N, t.val = 0 → k0_off39 (grid0.coords t) = ![(slotAt t.val).val, 3000, 128] := by decide +kernel
instance (priority := high) closed39 (t : Fin grid0.N) [hf : Fact (condBoot (grid0.coords t))] : ClosedOff (k0_off39 (grid0.coords t)) :=
  ⟨![(slotAt t.val).val, 3000, 128], off39_eq t ((condBoot_iff t).1 hf.out)⟩
theorem off40_eq : ∀ t : Fin grid0.N, t.val = 0 → k0_off40 (grid0.coords t) = ![(slotAt t.val).val, 4000, 128] := by decide +kernel
instance (priority := high) closed40 (t : Fin grid0.N) [hf : Fact (condBoot (grid0.coords t))] : ClosedOff (k0_off40 (grid0.coords t)) :=
  ⟨![(slotAt t.val).val, 4000, 128], off40_eq t ((condBoot_iff t).1 hf.out)⟩
theorem off41_eq : ∀ t : Fin grid0.N, t.val = 0 → k0_off41 (grid0.coords t) = ![(slotAt t.val).val, 5000, 128] := by decide +kernel
instance (priority := high) closed41 (t : Fin grid0.N) [hf : Fact (condBoot (grid0.coords t))] : ClosedOff (k0_off41 (grid0.coords t)) :=
  ⟨![(slotAt t.val).val, 5000, 128], off41_eq t ((condBoot_iff t).1 hf.out)⟩
theorem off42_eq : ∀ t : Fin grid0.N, t.val = 0 → k0_off42 (grid0.coords t) = ![(slotAt t.val).val, 6000, 128] := by decide +kernel
instance (priority := high) closed42 (t : Fin grid0.N) [hf : Fact (condBoot (grid0.coords t))] : ClosedOff (k0_off42 (grid0.coords t)) :=
  ⟨![(slotAt t.val).val, 6000, 128], off42_eq t ((condBoot_iff t).1 hf.out)⟩
theorem off43_eq : ∀ t : Fin grid0.N, t.val = 0 → k0_off43 (grid0.coords t) = ![(slotAt t.val).val, 7000, 128] := by decide +kernel
instance (priority := high) closed43 (t : Fin grid0.N) [hf : Fact (condBoot (grid0.coords t))] : ClosedOff (k0_off43 (grid0.coords t)) :=
  ⟨![(slotAt t.val).val, 7000, 128], off43_eq t ((condBoot_iff t).1 hf.out)⟩

end Cert.KernelIdeal.Own

end
-- ==== Proof.KernelIdeal.States.lean ====
/- The pieces of memory the two rings hand around: a stripe held at given contents, a cell at zero, a copy in flight;
   and what a slot of either scratch holds for a block, named by the input and by the result. -/
module

public import proofs.«01_k».proof.Proof.KernelIdeal.Names

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The contents of a whole memref's buffer, at device `c`. -/
abbrev BufOf (c : Dev nD) {sp : Space} {S : Shape} {e : EltTy} (M : Memref sig .tc sp S e) : Type := Buf (Elt F) (M.view.loc (c : Thread nD τ))

/-- Five statements, one per stripe, held side by side. -/
abbrev five (P : Fin 5 → sProp 𝕄) : sProp 𝕄 := iprop(P 0 ∗ P 1 ∗ P 2 ∗ P 3 ∗ P 4)

/-- The input scratch's contents whose every slot holds block `b` of the input `X`. -/
def inOf (X : S100000x128.Idx → Elt F .f32) (b : Fin 10) : S2x10000x128.Idx → Elt F .f32 := fun i =>
  X (ix2 ⟨10000 * b.val + (i 1).val, by have := b.isLt; have : (i 1).val < 10000 := (i 1).isLt; omega⟩ (i 2))
/-- The result scratch's contents whose every slot holds block `b` of the result `G`. -/
def outOf (G : S100000x132.Idx → Elt F .f32) (b : Fin 10) : S2x10000x132.Idx → Elt F .f32 := fun i =>
  G (ix2 ⟨10000 * b.val + (i 1).val, by have := b.isLt; have : (i 1).val < 10000 := (i 1).isLt; omega⟩ (i 2))

variable (c : Dev nD) (X : BufOf (F := F) c xM) (O G : BufOf (F := F) c resM)

/-- One of ten shares of the whole, one per stripe of a slot: the copies into them read the input at once, each through its own. -/
def shr (s : Fin 2) (r : Fin 5) : PosShare TreeShare :=
  let q : PosShare TreeShare := if s.val = 0 then fullShare.left else fullShare.right
  match r with
  | 0 => q.left
  | 1 => q.right.left
  | 2 => q.right.right.left
  | 3 => q.right.right.right.left
  | 4 => q.right.right.right.right

abbrev inP (s : Fin 2) (r : Fin 5) (f : BufOf (F := F) c (inTile s r)) : sProp 𝕄 := (inTile s r).view.loc (c : Thread nD τ) ↦[(inTile s r).view.set]{fullShare} f
abbrev inCellP (s : Fin 2) (r : Fin 5) : sProp 𝕄 := semVal ((c : Thread nD τ), inCellR s r) 0
abbrev srcP (s : Fin 2) (b : Fin 10) (r : Fin 5) : sProp 𝕄 := (src b r).view.loc (c : Thread nD τ) ↦[(src b r).view.set]{shr s r} X
/-- What a copy from block `b` leaves of its share of the input. -/
def restP (s : Fin 2) (b : Fin 10) (r : Fin 5) : sProp 𝕄 := ((c : Thread nD τ).loc main_arg0) ↦[Finset.univ \ (src b r).view.set]{shr s r} X
/-- The share of the input that belongs to a stripe, whole. -/
def wholeP (s : Fin 2) (r : Fin 5) : sProp 𝕄 := ((c : Thread nD τ).loc main_arg0) ↦[Finset.univ]{shr s r} X
/-- A stripe's contents once the copy from block `b` has landed over `f`. -/
abbrev landedIn (s : Fin 2) (b : Fin 10) (r : Fin 5) (f : BufOf (F := F) c (inTile s r)) : BufOf (F := F) c (inTile s r) :=
  (inTile s r).view.writes (Elt F) f [⟨Rect.whole S2000x128, ReadAs.same.apply ((src b r).view.read (Elt F) X)⟩]
abbrev flightIn (s : Fin 2) (b : Fin 10) (r : Fin 5) (f : BufOf (F := F) c (inTile s r)) : sProp 𝕄 :=
  Transfers.Flight countersEmb (c : Thread nD τ) (inCellR s r) default ((inTile s r).view.amount (inCellR s r))
    iprop(inP c s r (landedIn c X s b r f) ∗ srcP c X s b r)

abbrev outP (s : Fin 2) (r : Fin 5) (f : BufOf (F := F) c (outTile s r)) : sProp 𝕄 := (outTile s r).view.loc (c : Thread nD τ) ↦[(outTile s r).view.set]{fullShare} f
abbrev outCellP (s : Fin 2) (r : Fin 5) : sProp 𝕄 := semVal ((c : Thread nD τ), outCellR s r) 0
abbrev pieceP (b : Fin 10) (r : Fin 5) (f : BufOf (F := F) c (piece b r)) : sProp 𝕄 := (piece b r).view.loc (c : Thread nD τ) ↦[(piece b r).view.set]{fullShare} f
/-- The result's stripe once the copy of a stripe held at `f` has landed. -/
abbrev landedOut (s : Fin 2) (b : Fin 10) (r : Fin 5) (f : BufOf (F := F) c (outTile s r)) : BufOf (F := F) c (piece b r) :=
  (piece b r).view.writes (Elt F) O [⟨Rect.whole S2000x132, ReadAs.same.apply ((outTile s r).view.read (Elt F) f)⟩]
abbrev flightOut (s : Fin 2) (b : Fin 10) (r : Fin 5) (f : BufOf (F := F) c (outTile s r)) : sProp 𝕄 :=
  Transfers.Flight countersEmb (c : Thread nD τ) (outCellR s r) default ((piece b r).view.amount (outCellR s r))
    iprop(pieceP c b r (landedOut c O s b r f) ∗ outP c s r f)

/-- Slot `s` of a scratch, whole. -/
abbrev inSlotP (s : Fin 2) (f : BufOf (F := F) c (inSlot s)) : sProp 𝕄 := (inSlot s).view.loc (c : Thread nD τ) ↦[(inSlot s).view.set]{fullShare} f
abbrev outSlotP (s : Fin 2) (f : BufOf (F := F) c (outSlot s)) : sProp 𝕄 := (outSlot s).view.loc (c : Thread nD τ) ↦[(outSlot s).view.set]{fullShare} f

/-! ## The roles of the rings -/

/-- The input slot's five cells at zero; its stripes at anything, each with its share of the input; its stripes being copied into from block `b`. -/
abbrev inCells (s : Fin 2) : sProp 𝕄 := five (fun r => inCellP (F := F) c s r)
abbrev inFreeSlot (s : Fin 2) (_ : Unit) : sProp 𝕄 := five (fun r => iprop((∃ f, inP (F := F) c s r f) ∗ wholeP c X s r))
abbrev inFlights (s : Fin 2) (b : Fin 10) (_ : Unit) : sProp 𝕄 := five (fun r => iprop((∃ f, flightIn c X s b r f) ∗ restP c X s b r))
/-- The result slot free; being copied out to block `b`; the block's stripes of the result before and after. -/
abbrev outFree (s : Fin 2) : sProp 𝕄 := five (fun r => iprop(outCellP (F := F) c s r ∗ ∃ f, outP (F := F) c s r f))
abbrev outFlights (s : Fin 2) (b : Fin 10) : sProp 𝕄 := five (fun r => flightOut c O s b r (outOf G b))
abbrev pieces (b : Fin 10) (f : BufOf (F := F) c resM) : sProp 𝕄 := five (fun r => pieceP c b r f)
abbrev noHome (b : Fin 10) : sProp 𝕄 := iprop(emp)

/-- A stripe's share of the input is what a copy from block `b` reads and the rest of it. -/
theorem whole_split (s : Fin 2) (b : Fin 10) (r : Fin 5) : wholeP (F := F) c X s r ⊣⊢ iprop(srcP c X s b r ∗ restP c X s b r) := by
  unfold restP wholeP; exact pointsTo_split_subset (Finset.subset_univ _)

end Cert.KernelIdeal.Own

end
-- ==== Proof.KernelIdeal.Values.lean ====
/- What the stripes, slots and blocks cover, what is read through them, and how five stripes make a slot. -/
module

public import proofs.«01_k».proof.Proof.KernelIdeal.States
public import Idealize.ShloMosaic.Lib.ValueLayout

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The elements covered -/

/-- A slot's stripe, as elements of the scratch of row width `w`; a slot; a block's stripe, as elements of the array. -/
def tileSet (w : ℕ) (s : Fin 2) (r : Fin 5) : Finset (⟨3, ![2, 10000, w]⟩ : Shape).Idx :=
  Finset.univ.filter fun i => (i 0).val = s.val ∧ 2000 * r.val ≤ (i 1).val ∧ (i 1).val < 2000 * r.val + 2000
def slotSet (w : ℕ) (s : Fin 2) : Finset (⟨3, ![2, 10000, w]⟩ : Shape).Idx := Finset.univ.filter fun i => (i 0).val = s.val
def rowSet (w : ℕ) (b : Fin 10) (r : Fin 5) : Finset (⟨2, ![100000, w]⟩ : Shape).Idx :=
  Finset.univ.filter fun i => 10000 * b.val + 2000 * r.val ≤ (i 0).val ∧ (i 0).val < 10000 * b.val + 2000 * r.val + 2000

theorem mem_tileSet {w : ℕ} {s : Fin 2} {r : Fin 5} {i} : i ∈ tileSet w s r ↔ (i 0).val = s.val ∧ 2000 * r.val ≤ (i 1).val ∧ (i 1).val < 2000 * r.val + 2000 := by
  simp only [tileSet, Finset.mem_filter, Finset.mem_univ, true_and]
theorem mem_slotSet {w : ℕ} {s : Fin 2} {i} : i ∈ slotSet w s ↔ (i 0).val = s.val := by
  simp only [slotSet, Finset.mem_filter, Finset.mem_univ, true_and]
theorem mem_rowSet {w : ℕ} {b : Fin 10} {r : Fin 5} {i} :
    i ∈ rowSet w b r ↔ 10000 * b.val + 2000 * r.val ≤ (i 0).val ∧ (i 0).val < 10000 * b.val + 2000 * r.val + 2000 := by
  simp only [rowSet, Finset.mem_filter, Finset.mem_univ, true_and]

theorem set_tile {w : ℕ} (s : Fin 2) (r : Fin 5) (h : ∀ a, (![s.val, 2000 * r.val, 0] : Fin 3 → ℕ) a + (![1, 2000, w] : Fin 3 → ℕ) a ≤ (⟨3, ![2, 10000, w]⟩ : Shape).size a) :
    (Rect.unit (s := ⟨3, ![2, 10000, w]⟩) ![s.val, 2000 * r.val, 0] ![1, 2000, w] h).set = tileSet w s r := by
  ext i
  rw [Rect.mem_set_unit, mem_tileSet]
  have h2 : (i 2).val < w := (i 2).isLt
  constructor
  · intro hi
    have h0 := hi 0; have h1 := hi 1
    simp at h0 h1
    omega
  · intro hi a
    fin_cases a <;> simp <;> omega
theorem set_slot {w : ℕ} (s : Fin 2) (h : ∀ a, (![s.val, 0, 0] : Fin 3 → ℕ) a + (![1, 10000, w] : Fin 3 → ℕ) a ≤ (⟨3, ![2, 10000, w]⟩ : Shape).size a) :
    (Rect.unit (s := ⟨3, ![2, 10000, w]⟩) ![s.val, 0, 0] ![1, 10000, w] h).set = slotSet w s := by
  ext i
  rw [Rect.mem_set_unit, mem_slotSet]
  have h1 : (i 1).val < 10000 := (i 1).isLt
  have h2 : (i 2).val < w := (i 2).isLt
  constructor
  · intro hi
    have h0 := hi 0
    simp at h0
    omega
  · intro hi a
    fin_cases a <;> simp <;> omega
theorem set_rows {w : ℕ} (b : Fin 10) (r : Fin 5) (h : ∀ a, (![10000 * b.val + 2000 * r.val, 0] : Fin 2 → ℕ) a + (![2000, w] : Fin 2 → ℕ) a ≤ (⟨2, ![100000, w]⟩ : Shape).size a) :
    (Rect.unit (s := ⟨2, ![100000, w]⟩) ![10000 * b.val + 2000 * r.val, 0] ![2000, w] h).set = rowSet w b r := by
  ext i
  rw [Rect.mem_set_unit, mem_rowSet]
  have h1 : (i 1).val < w := (i 1).isLt
  constructor
  · intro hi
    have h0 := hi 0
    simp at h0
    omega
  · intro hi a
    fin_cases a <;> simp <;> omega

theorem inTile_set (s : Fin 2) (r : Fin 5) : (inTile s r).view.set = tileSet 128 s r := by
  simp only [inTile, Memref.view_squeeze, View.set_reshape]; exact (View.set_slice_whole _ _).trans (set_tile s r _)
theorem outTile_set (s : Fin 2) (r : Fin 5) : (outTile s r).view.set = tileSet 132 s r := by
  simp only [outTile, Memref.view_squeeze, View.set_reshape]; exact (View.set_slice_whole _ _).trans (set_tile s r _)
theorem inSlot_set (s : Fin 2) : (inSlot s).view.set = slotSet 128 s := (View.set_slice_whole _ _).trans (set_slot s _)
theorem outSlot_set (s : Fin 2) : (outSlot s).view.set = slotSet 132 s := (View.set_slice_whole _ _).trans (set_slot s _)
theorem piece_set (b : Fin 10) (r : Fin 5) : (piece b r).view.set = rowSet 132 b r := (View.set_slice_whole _ _).trans (set_rows b r _)

theorem tile_disjoint (w : ℕ) (i i' : Fin 2 × Fin 5) (h : i ≠ i') : Disjoint (tileSet w i.1 i.2) (tileSet w i'.1 i'.2) := by
  rw [Finset.disjoint_left]; intro j hj hj'
  rw [mem_tileSet] at hj hj'
  exact h (Prod.ext (Fin.ext (by omega)) (Fin.ext (by omega)))
theorem tile_cover (w : ℕ) : Finset.univ.biUnion (fun i : Fin 2 × Fin 5 => tileSet w i.1 i.2) = Finset.univ := by
  ext j
  have h0 : (j 0).val < 2 := (j 0).isLt
  have h1 : (j 1).val < 10000 := (j 1).isLt
  simp only [Finset.mem_biUnion, Finset.mem_univ, true_and, iff_true, mem_tileSet]
  exact ⟨(⟨(j 0).val, h0⟩, ⟨(j 1).val / 2000, by omega⟩), rfl, by show 2000 * ((j 1).val / 2000) ≤ _; omega, by show _ < 2000 * ((j 1).val / 2000) + 2000; omega⟩
theorem slot_cover (w : ℕ) (s : Fin 2) : Finset.univ.biUnion (fun r : Fin 5 => tileSet w s r) = slotSet w s := by
  ext j
  have h1 : (j 1).val < 10000 := (j 1).isLt
  simp only [Finset.mem_biUnion, Finset.mem_univ, true_and, mem_tileSet, mem_slotSet]
  constructor
  · rintro ⟨r, h, -⟩; exact h
  · intro h; exact ⟨⟨(j 1).val / 2000, by omega⟩, h, by show 2000 * ((j 1).val / 2000) ≤ _; omega, by show _ < 2000 * ((j 1).val / 2000) + 2000; omega⟩
theorem row_disjoint (w : ℕ) (i i' : Fin 10 × Fin 5) (h : i ≠ i') : Disjoint (rowSet w i.1 i.2) (rowSet w i'.1 i'.2) := by
  rw [Finset.disjoint_left]; intro j hj hj'
  rw [mem_rowSet] at hj hj'
  exact h (Prod.ext (Fin.ext (by omega)) (Fin.ext (by omega)))
theorem row_cover (w : ℕ) : Finset.univ.biUnion (fun i : Fin 10 × Fin 5 => rowSet w i.1 i.2) = Finset.univ := by
  ext j
  have h0 : (j 0).val < 100000 := (j 0).isLt
  simp only [Finset.mem_biUnion, Finset.mem_univ, true_and, iff_true, mem_rowSet]
  exact ⟨(⟨(j 0).val / 10000, by omega⟩, ⟨(j 0).val % 10000 / 2000, by omega⟩),
    by show 10000 * ((j 0).val / 10000) + 2000 * ((j 0).val % 10000 / 2000) ≤ _; omega,
    by show _ < 10000 * ((j 0).val / 10000) + 2000 * ((j 0).val % 10000 / 2000) + 2000; omega⟩

/-! ## What is read through them -/

theorem inTile_read (s : Fin 2) (r : Fin 5) (f : S2x10000x128.Idx → Elt F .f32) (x : S2000x128.Idx) :
    (inTile s r).view.read (Elt F) f x = f (ix3 s ⟨2000 * r.val + (x 0).val, by have : (x 0).val < 2000 := (x 0).isLt; have := r.isLt; omega⟩ (x 1)) := by
  obtain ⟨p, q, rfl⟩ : ∃ p q, x = ix2 p q := ⟨_, _, eq_ix2 x⟩
  refine congrArg f ?_
  show (Rect.unit (s := S2x10000x128) ![s.val, 2000 * r.val, 0] S1x2000x128.size (inb_inTile s r)).emb (Shape.reshapeEquiv squeezes_S1x2000x128_S2000x128.numel_eq (ix2 p q)) = _
  rw [show Shape.reshapeEquiv squeezes_S1x2000x128_S2000x128.numel_eq (ix2 p q) = ix3 (⟨0, Nat.one_pos⟩ : Fin 1) p q from ValueIdx.reshapeEquiv_ix2_1ab _ p q]
  funext a; refine Fin.ext ?_
  rw [Rect.emb_apply]
  fin_cases a <;> simp [Rect.unit]
theorem outTile_read (s : Fin 2) (r : Fin 5) (f : S2x10000x132.Idx → Elt F .f32) (x : S2000x132.Idx) :
    (outTile s r).view.read (Elt F) f x = f (ix3 s ⟨2000 * r.val + (x 0).val, by have : (x 0).val < 2000 := (x 0).isLt; have := r.isLt; omega⟩ (x 1)) := by
  obtain ⟨p, q, rfl⟩ : ∃ p q, x = ix2 p q := ⟨_, _, eq_ix2 x⟩
  refine congrArg f ?_
  show (Rect.unit (s := S2x10000x132) ![s.val, 2000 * r.val, 0] S1x2000x132.size (inb_outTile s r)).emb (Shape.reshapeEquiv squeezes_S1x2000x132_S2000x132.numel_eq (ix2 p q)) = _
  rw [show Shape.reshapeEquiv squeezes_S1x2000x132_S2000x132.numel_eq (ix2 p q) = ix3 (⟨0, Nat.one_pos⟩ : Fin 1) p q from ValueIdx.reshapeEquiv_ix2_1ab _ p q]
  funext a; refine Fin.ext ?_
  rw [Rect.emb_apply]
  fin_cases a <;> simp [Rect.unit]
theorem src_read (b : Fin 10) (r : Fin 5) (f : S100000x128.Idx → Elt F .f32) (x : S2000x128.Idx) :
    (src b r).view.read (Elt F) f x = f (ix2 ⟨10000 * b.val + 2000 * r.val + (x 0).val, by have : (x 0).val < 2000 := (x 0).isLt; have := r.isLt; have := b.isLt; omega⟩ (x 1)) := by
  refine congrArg f ?_
  show (Rect.unit (s := S100000x128) ![10000 * b.val + 2000 * r.val, 0] S2000x128.size (inb_src b r)).emb x = _
  funext a; refine Fin.ext ?_
  rw [Rect.emb_apply]
  fin_cases a <;> simp [Rect.unit]
theorem piece_read (b : Fin 10) (r : Fin 5) (f : S100000x132.Idx → Elt F .f32) (x : S2000x132.Idx) :
    (piece b r).view.read (Elt F) f x = f (ix2 ⟨10000 * b.val + 2000 * r.val + (x 0).val, by have : (x 0).val < 2000 := (x 0).isLt; have := r.isLt; have := b.isLt; omega⟩ (x 1)) := by
  refine congrArg f ?_
  show (Rect.unit (s := S100000x132) ![10000 * b.val + 2000 * r.val, 0] S2000x132.size (inb_piece b r)).emb x = _
  funext a; refine Fin.ext ?_
  rw [Rect.emb_apply]
  fin_cases a <;> simp [Rect.unit]

/-- Two contents that read the same through a view agree on the view's elements. -/
theorem agree_of_read {κ : Kind} {sp : Space} {S : Shape} {e : EltTy} (v : View sig κ sp S e) (f g : v.ty.Contents (Elt F))
    (h : ∀ x, v.read (Elt F) f x = v.read (Elt F) g x) : ∀ i ∈ v.set, f i = g i := by
  intro i hi
  obtain ⟨x, -, rfl⟩ := Finset.mem_map.mp hi
  have := h x
  rw [View.read_apply, View.read_apply] at this
  exact (cast_inj _).1 this

variable (c : Dev nD) (X : BufOf (F := F) c xM) (O G : BufOf (F := F) c resM)

/-- A stripe a copy from block `b` has landed in holds block `b`; -/
theorem landedIn_eq (s : Fin 2) (b : Fin 10) (r : Fin 5) (f : BufOf (F := F) c (inTile s r)) :
    ∀ i ∈ (inTile s r).view.set, landedIn c X s b r f i = inOf X b i := by
  refine agree_of_read _ _ _ fun x => ?_
  unfold landedIn
  refine (congrFun (View.read_writes_whole (inTile s r).view f _) x).trans ?_
  refine (src_read b r X x).trans ((inTile_read s r (inOf X b) x).trans ?_).symm
  refine congrArg X ?_
  refine congrArg₂ ix2 (Fin.ext ?_) rfl
  show 10000 * b.val + (2000 * r.val + (x 0).val) = 10000 * b.val + 2000 * r.val + (x 0).val
  omega
/-- and a stripe of the result holds block `b` once the copy of a stripe holding it has landed. -/
theorem landedOut_eq (s : Fin 2) (b : Fin 10) (r : Fin 5) :
    ∀ i ∈ (piece b r).view.set, landedOut c O s b r (outOf G b) i = G i := by
  refine agree_of_read _ _ _ fun x => ?_
  unfold landedOut
  refine (congrFun (View.read_writes_whole (piece b r).view O _) x).trans ?_
  refine (outTile_read s r (outOf G b) x).trans (Eq.trans ?_ (piece_read b r G x).symm)
  refine congrArg G ?_
  refine congrArg₂ ix2 (Fin.ext ?_) rfl
  show 10000 * b.val + (2000 * r.val + (x 0).val) = 10000 * b.val + 2000 * r.val + (x 0).val
  omega

/-! ## Five stripes make a slot -/

theorem inP_eq (s : Fin 2) (r : Fin 5) (f) : inP (F := F) c s r f = (((c : Thread nD τ).loc cc0_scratch0) ↦[tileSet 128 s r]{fullShare} f : sProp 𝕄) := by
  unfold inP; rw [inTile_set]; rfl
theorem outP_eq (s : Fin 2) (r : Fin 5) (f) : outP (F := F) c s r f = (((c : Thread nD τ).loc cc0_scratch1) ↦[tileSet 132 s r]{fullShare} f : sProp 𝕄) := by
  unfold outP; rw [outTile_set]; rfl
theorem inSlotP_eq (s : Fin 2) (f) : inSlotP (F := F) c s f = (((c : Thread nD τ).loc cc0_scratch0) ↦[slotSet 128 s]{fullShare} f : sProp 𝕄) := by
  unfold inSlotP; rw [inSlot_set]; rfl
theorem outSlotP_eq (s : Fin 2) (f) : outSlotP (F := F) c s f = (((c : Thread nD τ).loc cc0_scratch1) ↦[slotSet 132 s]{fullShare} f : sProp 𝕄) := by
  unfold outSlotP; rw [outSlot_set]; rfl
theorem pieceP_eq (b : Fin 10) (r : Fin 5) (f) : pieceP (F := F) c b r f = (((c : Thread nD τ).loc main_v0) ↦[rowSet 132 b r]{fullShare} f : sProp 𝕄) := by
  unfold pieceP; rw [piece_set]; rfl

theorem bigSep_five (P : Fin 5 → sProp 𝕄) : bigSep Finset.univ P = five P :=
  BI.bigSep_univ_eq_bigSepL [0, 1, 2, 3, 4] (by decide) (by decide) P

theorem slot_tiles_disjoint (w : ℕ) (s : Fin 2) (r r' : Fin 5) (h : r ≠ r') : Disjoint (tileSet w s r) (tileSet w s r') :=
  tile_disjoint w (s, r) (s, r') (fun e => h (congrArg Prod.snd e))

/-- A slot held at one function is its five stripes held at it. -/
theorem inSlot_five (s : Fin 2) (f : Buf (Elt F) ((c : Thread nD τ).loc cc0_scratch0)) : inSlotP (F := F) c s f = five (fun r => inP c s r f) := by
  have h := Ring.pointsTo_sub_blocks (Ix := Unit) (Name := ℕ) (U := Pipeline.UD sig nD τ) (Lvl := ℕ) (q := fullShare) (fun r : Fin 5 => tileSet 128 s r) (slot_tiles_disjoint 128 s) _ (slot_cover 128 s) f
  rw [bigSep_five] at h
  have e : (fun r => inP (F := F) c s r f) = fun r => (((c : Thread nD τ).loc cc0_scratch0) ↦[tileSet 128 s r]{fullShare} f : sProp 𝕄) := funext fun r => inP_eq c s r f
  rw [e]
  exact (inSlotP_eq c s f).trans h
theorem outSlot_five (s : Fin 2) (f : Buf (Elt F) ((c : Thread nD τ).loc cc0_scratch1)) : outSlotP (F := F) c s f = five (fun r => outP c s r f) := by
  have h := Ring.pointsTo_sub_blocks (Ix := Unit) (Name := ℕ) (U := Pipeline.UD sig nD τ) (Lvl := ℕ) (q := fullShare) (fun r : Fin 5 => tileSet 132 s r) (slot_tiles_disjoint 132 s) _ (slot_cover 132 s) f
  rw [bigSep_five] at h
  have e : (fun r => outP (F := F) c s r f) = fun r => (((c : Thread nD τ).loc cc0_scratch1) ↦[tileSet 132 s r]{fullShare} f : sProp 𝕄) := funext fun r => outP_eq c s r f
  rw [e]
  exact (outSlotP_eq c s f).trans h

/-- The five stripes landed from block `b` are the slot holding block `b`. -/
theorem in_join (s : Fin 2) (b : Fin 10) (g0 : BufOf (F := F) c (inTile s 0)) (g1 : BufOf (F := F) c (inTile s 1)) (g2 : BufOf (F := F) c (inTile s 2)) (g3 : BufOf (F := F) c (inTile s 3)) (g4 : BufOf (F := F) c (inTile s 4)) :
    iprop(inP c s 0 (landedIn c X s b 0 g0) ∗ inP c s 1 (landedIn c X s b 1 g1) ∗ inP c s 2 (landedIn c X s b 2 g2) ∗ inP c s 3 (landedIn c X s b 3 g3) ∗ inP c s 4 (landedIn c X s b 4 g4))
      ⊢ inSlotP c s (inOf X b) := by
  refine BIBase.Entails.trans ?_ (Entails.of_eq (inSlot_five c s (inOf X b)).symm)
  have e (r : Fin 5) (g : BufOf (F := F) c (inTile s r)) : inP c s r (landedIn c X s b r g) = inP c s r (inOf X b) := pointsTo_congr (landedIn_eq c X s b r g)
  rw [e, e, e, e, e]
/-- A slot gives its five stripes back. -/
theorem in_split (s : Fin 2) (f : BufOf (F := F) c (inSlot s)) : inSlotP c s f ⊢ five (fun r => iprop(∃ g, inP (F := F) c s r g)) := by
  refine (Entails.of_eq (inSlot_five c s f)).trans ?_
  iintro ⟨H0, H1, H2, H3, H4⟩
  isplitl [H0]; · iexists _; iexact H0
  isplitl [H1]; · iexists _; iexact H1
  isplitl [H2]; · iexists _; iexact H2
  isplitl [H3]; · iexists _; iexact H3
  iexists _; iexact H4
/-- The result slot's five stripes, whatever they hold, are the slot holding something. -/
theorem out_join (s : Fin 2) (f0 : Buf (Elt F) ((c : Thread nD τ).loc cc0_scratch1)) :
    five (fun r => iprop(∃ g, outP (F := F) c s r g)) ⊢ iprop(∃ f, outSlotP (F := F) c s f) := by
  have h := Ring.pointsTo_sub_blocks_join_exists (Ix := Unit) (Name := ℕ) (U := Pipeline.UD sig nD τ) (Lvl := ℕ) (q := fullShare) (fun r : Fin 5 => tileSet 132 s r) (slot_tiles_disjoint 132 s) _ (slot_cover 132 s) f0
  rw [bigSep_five] at h
  simp only [outP_eq, outSlotP_eq]
  exact h
/-- A slot holding block `b` of `G` is its five stripes holding it. -/
theorem out_split (s : Fin 2) (b : Fin 10) (f : BufOf (F := F) c (outSlot s)) (h : ∀ i ∈ slotSet 132 s, f i = outOf G b i) :
    outSlotP c s f ⊢ five (fun r => outP (F := F) c s r (outOf G b)) := by
  exact Entails.of_eq ((show outSlotP c s f = outSlotP c s (outOf G b) from pointsTo_congr (by rw [outSlot_set]; exact h)).trans (outSlot_five c s (outOf G b)))
/-- A stripe of the result after its copy out. -/
theorem piece_done (s : Fin 2) (b : Fin 10) (r : Fin 5) : pieceP c b r (landedOut c O s b r (outOf G b)) ⊢ pieceP c b r G := by
  exact Entails.of_eq (pointsTo_congr (landedOut_eq c O G s b r))

end Cert.KernelIdeal.Own

end
-- ==== Proof.KernelIdeal.Ring.lean ====
/- What the two rings and the result hold between grid points, and how that starts and ends: the launch hands the
   scratches, the cells, the input and the result over whole, and takes them back so, the result then holding `G`. -/
module

public import proofs.«01_k».proof.Proof.KernelIdeal.Values

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem slotAt_two (k : ℕ) : slotAt (k + 2) = slotAt k := by
  rw [slotAt_eq, slotAt_eq]; exact Fin.ext (by show (k + 2) % 2 = k % 2; omega)
theorem slotAt_zero : slotAt 0 = 0 := by rw [slotAt_eq]; rfl
theorem slotAt_one : slotAt 1 = 1 := by rw [slotAt_eq]; rfl
theorem slotAt_nine : slotAt 9 = 1 := by rw [slotAt_eq]; rfl
theorem slotAt_ten : slotAt 10 = 0 := by rw [slotAt_eq]; rfl

section
variable (c : Dev nD) (X : BufOf (F := F) c xM) (O G : BufOf (F := F) c resM)

/-! ## The result's stripes not started yet, and those finished -/

/-- The result's blocks from `k` on, as the launch found them. -/
def ahead (k : ℕ) : sProp 𝕄 := bigSep (Finset.univ.filter fun b : Fin 10 => k ≤ b.val) fun b => pieces c b O
/-- The result's first `n` blocks, finished. -/
def behind (n : ℕ) : sProp 𝕄 := bigSep (Finset.univ.filter fun b : Fin 10 => b.val < n) fun b => pieces c b G

theorem ahead_step (k : ℕ) (hk : k < 10) : ahead c O k = iprop(pieces c (blockAt k) O ∗ ahead c O (k + 1)) := by
  have hb : (blockAt k).val = k := by rw [blockAt_val]; omega
  unfold ahead
  rw [show (Finset.univ.filter fun b : Fin 10 => k ≤ b.val) = insert (blockAt k) (Finset.univ.filter fun b : Fin 10 => k + 1 ≤ b.val) from by
    ext b; simp only [Finset.mem_filter, Finset.mem_univ, true_and, Finset.mem_insert, Fin.ext_iff, hb]; omega]
  exact BI.bigSep_insert (by simp only [Finset.mem_filter, Finset.mem_univ, true_and, hb]; omega)
theorem behind_step (n : ℕ) (hn : n < 10) : behind c G (n + 1) = iprop(pieces c (blockAt n) G ∗ behind c G n) := by
  have hb : (blockAt n).val = n := by rw [blockAt_val]; omega
  unfold behind
  rw [show (Finset.univ.filter fun b : Fin 10 => b.val < n + 1) = insert (blockAt n) (Finset.univ.filter fun b : Fin 10 => b.val < n) from by
    ext b; simp only [Finset.mem_filter, Finset.mem_univ, true_and, Finset.mem_insert, Fin.ext_iff, hb]; omega]
  exact BI.bigSep_insert (by simp only [Finset.mem_filter, Finset.mem_univ, true_and, hb]; omega)
theorem ahead_ten : ahead c O 10 = iprop(emp) := by
  unfold ahead
  rw [show (Finset.univ.filter fun b : Fin 10 => 10 ≤ b.val) = ∅ from by ext b; simp only [Finset.mem_filter, Finset.mem_univ, true_and, Finset.notMem_empty, iff_false]; omega]
  rfl
theorem behind_zero : behind c G 0 = iprop(emp) := by
  unfold behind
  rw [show (Finset.univ.filter fun b : Fin 10 => b.val < 0) = ∅ from by ext b; simp only [Finset.mem_filter, Finset.mem_univ, true_and, Finset.notMem_empty, iff_false]; omega]
  rfl
/-- The result whole is its fifty stripes. -/
theorem result_stripes (f : BufOf (F := F) c resM) : ((((c : Thread nD τ).loc main_v0) ↦{fullShare} f) : sProp 𝕄) = bigSep Finset.univ fun b : Fin 10 => pieces c b f := by
  have h := Ring.pointsTo_blocks (Ix := Unit) (Name := ℕ) (U := Pipeline.UD sig nD τ) (Lvl := ℕ) (ℓ := (c : Thread nD τ).loc main_v0) (q := fullShare) (fun i : Fin 10 × Fin 5 => rowSet 132 i.1 i.2) (row_disjoint 132) (row_cover 132) f
  rw [h, BI.bigSep_univ_prod]
  refine BI.bigSep_congr fun b _ => ?_
  rw [bigSep_five]
  exact congrArg five (funext fun r => (pieceP_eq c b r f).symm)
theorem ahead_zero : ahead c O 0 = ((((c : Thread nD τ).loc main_v0) ↦{fullShare} O) : sProp 𝕄) := by
  rw [result_stripes]; unfold ahead
  rw [show (Finset.univ.filter fun b : Fin 10 => 0 ≤ b.val) = Finset.univ from by ext b; simp]
theorem behind_ten : behind c G 10 = ((((c : Thread nD τ).loc main_v0) ↦{fullShare} G) : sProp 𝕄) := by
  rw [result_stripes]; unfold behind
  rw [show (Finset.univ.filter fun b : Fin 10 => b.val < 10) = Finset.univ from by ext b; simp only [Finset.mem_filter, Finset.mem_univ, true_and, iff_true]; exact b.isLt]

/-! ## Between the points -/

/-- Before the first point: every slot free, nothing of the result started. -/
def ringFirst : sProp 𝕄 := iprop(inCells (F := F) c (slotAt 0) ∗ inFreeSlot c X (slotAt 0) () ∗ inCells (F := F) c (slotAt 1) ∗ inFreeSlot c X (slotAt 1) ()
  ∗ ahead c O 0 ∗ outFree (F := F) c (slotAt 0) ∗ outFree (F := F) c (slotAt 1))
/-- Before the second: block 1 being copied in, block 0 being copied out. -/
def ringSecond : sProp 𝕄 := iprop(inFlights c X (slotAt 1) (blockAt 1) () ∗ inCells (F := F) c (slotAt 2) ∗ inFreeSlot c X (slotAt 2) ()
  ∗ ahead c O 1 ∗ outFlights c O G (slotAt 0) (blockAt 0) ∗ outFree (F := F) c (slotAt 1))
/-- Before a later point `k`: block `k` being copied in, the two blocks before it being copied out. -/
def ringLater (k : ℕ) : sProp 𝕄 := iprop(inFlights c X (slotAt k) (blockAt k) () ∗ inCells (F := F) c (slotAt (k + 1)) ∗ inFreeSlot c X (slotAt (k + 1)) ()
  ∗ ahead c O k ∗ outFlights c O G (slotAt k) (blockAt (k - 2)) ∗ outFlights c O G (slotAt (k + 1)) (blockAt (k - 1)) ∗ behind c G (k - 2))
/-- After the last: every slot free, the result finished. -/
def ringLast : sProp 𝕄 := iprop(inCells (F := F) c (slotAt 9) ∗ inFreeSlot c X (slotAt 9) () ∗ inCells (F := F) c (slotAt 10) ∗ inFreeSlot c X (slotAt 10) ()
  ∗ behind c G 10 ∗ outFree (F := F) c (slotAt 9) ∗ outFree (F := F) c (slotAt 10))
/-- Before point `k`. -/
def ringAt (k : ℕ) : sProp 𝕄 := if k = 0 then ringFirst c X O else if k = 1 then ringSecond c X O G else if k < 10 then ringLater c X O G k else ringLast c X G

theorem ringAt_A (k : ℕ) (hk : k = 0) : ringAt c X O G k = iprop(inCells (F := F) c (slotAt k) ∗ inFreeSlot c X (slotAt k) () ∗ inCells (F := F) c (slotAt (k + 1)) ∗ inFreeSlot c X (slotAt (k + 1)) ()
    ∗ (pieces c (blockAt k) O ∗ ahead c O (k + 1)) ∗ outFree (F := F) c (slotAt k) ∗ outFree (F := F) c (slotAt (k + 1))) := by
  subst hk; rw [← ahead_step c O 0 (by decide)]; rfl
theorem ringAt_A' (k : ℕ) (hk : k = 0) : ringAt c X O G (k + 1) = iprop(inFlights c X (slotAt (k + 1)) (blockAt (k + 1)) () ∗ inCells (F := F) c (slotAt k) ∗ inFreeSlot c X (slotAt k) ()
    ∗ ahead c O (k + 1) ∗ outFlights c O G (slotAt k) (blockAt k) ∗ outFree (F := F) c (slotAt (k + 1))) := by
  subst hk; rw [← slotAt_two 0]; conv_rhs => rw [show outFlights c O G (slotAt (0 + 2)) (blockAt 0) = outFlights c O G (slotAt 0) (blockAt 0) from by rw [slotAt_two]]
  rfl
theorem ringAt_B (k : ℕ) (hk : k = 1) : ringAt c X O G k = iprop(inFlights c X (slotAt k) (blockAt k) () ∗ inCells (F := F) c (slotAt (k + 1)) ∗ inFreeSlot c X (slotAt (k + 1)) ()
    ∗ (pieces c (blockAt k) O ∗ ahead c O (k + 1)) ∗ outFlights c O G (slotAt (k + 1)) (blockAt (k - 1)) ∗ outFree (F := F) c (slotAt k)) := by
  subst hk; rw [← ahead_step c O 1 (by decide), show outFlights c O G (slotAt (1 + 1)) (blockAt (1 - 1)) = outFlights c O G (slotAt 0) (blockAt 0) from by rw [slotAt_two 0]]; rfl
theorem ringAt_B' (k : ℕ) (hk : k = 1) : ringAt c X O G (k + 1) = iprop(inFlights c X (slotAt (k + 1)) (blockAt (k + 1)) () ∗ inCells (F := F) c (slotAt k) ∗ inFreeSlot c X (slotAt k) ()
    ∗ ahead c O (k + 1) ∗ outFlights c O G (slotAt (k + 1)) (blockAt (k - 1)) ∗ outFlights c O G (slotAt k) (blockAt k) ∗ behind c G 0) := by
  subst hk; rw [← slotAt_two 1]; rfl
theorem ringAt_C (k : ℕ) (h2 : 2 ≤ k) (h9 : k < 10) : ringAt c X O G k = iprop(inFlights c X (slotAt k) (blockAt k) () ∗ inCells (F := F) c (slotAt (k + 1)) ∗ inFreeSlot c X (slotAt (k + 1)) ()
    ∗ (pieces c (blockAt k) O ∗ ahead c O (k + 1)) ∗ outFlights c O G (slotAt k) (blockAt (k - 2)) ∗ outFlights c O G (slotAt (k + 1)) (blockAt (k - 1)) ∗ behind c G (k - 2)) := by
  rw [← ahead_step c O k h9]; unfold ringAt; rw [if_neg (by omega), if_neg (by omega), if_pos h9]; rfl
theorem ringAt_C' (k : ℕ) (h2 : 2 ≤ k) (h9 : k < 9) : ringAt c X O G (k + 1) = iprop(inFlights c X (slotAt (k + 1)) (blockAt (k + 1)) () ∗ inCells (F := F) c (slotAt k) ∗ inFreeSlot c X (slotAt k) ()
    ∗ ahead c O (k + 1) ∗ outFlights c O G (slotAt (k + 1)) (blockAt (k - 1)) ∗ outFlights c O G (slotAt k) (blockAt k) ∗ (pieces c (blockAt (k - 2)) G ∗ behind c G (k - 2))) := by
  rw [← behind_step c G (k - 2) (by omega), ← slotAt_two k, show k - 2 + 1 = k + 1 - 2 by omega]
  unfold ringAt; rw [if_neg (by omega), if_neg (by omega), if_pos (by omega)]; rfl
theorem ringAt_D' (k : ℕ) (hk : k = 9) : ringAt c X O G (k + 1) = iprop(inCells (F := F) c (slotAt k) ∗ inFreeSlot c X (slotAt k) () ∗ inCells (F := F) c (slotAt (k + 1)) ∗ inFreeSlot c X (slotAt (k + 1)) ()
    ∗ (pieces c (blockAt k) G ∗ pieces c (blockAt (k - 1)) G ∗ pieces c (blockAt (k - 2)) G ∗ behind c G (k - 2)) ∗ outFree (F := F) c (slotAt k) ∗ outFree (F := F) c (slotAt (k + 1))) := by
  subst hk; rw [show (9 - 2 : ℕ) = 7 from rfl, ← behind_step c G 7 (by decide), show (9 - 1 : ℕ) = 8 from rfl, ← behind_step c G 8 (by decide), ← behind_step c G 9 (by decide)]; rfl

/-! ## The scratches, the shares and the cells -/

theorem bigSep_two_five (P : Fin 2 × Fin 5 → sProp 𝕄) : bigSep Finset.univ P = iprop(five (fun r => P (0, r)) ∗ five (fun r => P (1, r))) := by
  rw [BI.bigSep_univ_prod, Ring.bigSep_fin2, bigSep_five, bigSep_five]

theorem in_tiles : iprop(∃ f : Buf (Elt F) ((c : Thread nD τ).loc cc0_scratch0), ((c : Thread nD τ).loc cc0_scratch0) ↦{fullShare} f)
    ⊢ (iprop(five (fun r => iprop(∃ f, inP (F := F) c 0 r f)) ∗ five (fun r => iprop(∃ f, inP (F := F) c 1 r f))) : sProp 𝕄) := by
  iintro ⟨%f, H⟩
  have h := Ring.pointsTo_blocks (Ix := Unit) (Name := ℕ) (U := Pipeline.UD sig nD τ) (Lvl := ℕ) (ℓ := (c : Thread nD τ).loc cc0_scratch0) (q := fullShare) (fun i : Fin 2 × Fin 5 => tileSet 128 i.1 i.2) (tile_disjoint 128) (tile_cover 128) f
  rw [bigSep_two_five] at h
  simp only [inP_eq]
  ihave H' := (Entails.of_eq h) $$ H
  icases H' with ⟨⟨H0, H1, H2, H3, H4⟩, ⟨J0, J1, J2, J3, J4⟩⟩
  isplitl [H0 H1 H2 H3 H4]
  · isplitl [H0]; · iexists _; iexact H0
    isplitl [H1]; · iexists _; iexact H1
    isplitl [H2]; · iexists _; iexact H2
    isplitl [H3]; · iexists _; iexact H3
    iexists _; iexact H4
  · isplitl [J0]; · iexists _; iexact J0
    isplitl [J1]; · iexists _; iexact J1
    isplitl [J2]; · iexists _; iexact J2
    isplitl [J3]; · iexists _; iexact J3
    iexists _; iexact J4
theorem in_untile : (iprop(five (fun r => iprop(∃ f, inP (F := F) c 0 r f)) ∗ five (fun r => iprop(∃ f, inP (F := F) c 1 r f))) : sProp 𝕄)
    ⊢ iprop(∃ f : Buf (Elt F) ((c : Thread nD τ).loc cc0_scratch0), ((c : Thread nD τ).loc cc0_scratch0) ↦{fullShare} f) := by
  have h := fun f0 : Buf (Elt F) ((c : Thread nD τ).loc cc0_scratch0) => Ring.pointsTo_blocks_join_exists (Ix := Unit) (Name := ℕ) (U := Pipeline.UD sig nD τ) (Lvl := ℕ) (ℓ := (c : Thread nD τ).loc cc0_scratch0) (q := fullShare) (fun i : Fin 2 × Fin 5 => tileSet 128 i.1 i.2) (tile_disjoint 128) (tile_cover 128) f0
  simp only [bigSep_two_five] at h
  simp only [inP_eq]
  iintro ⟨⟨⟨%g, H0⟩, H⟩, J⟩
  iapply (h g)
  isplitl [H0 H]
  · isplitl [H0]
    · iexists g; iexact H0
    iexact H
  iexact J
theorem out_tiles : iprop(∃ f : Buf (Elt F) ((c : Thread nD τ).loc cc0_scratch1), ((c : Thread nD τ).loc cc0_scratch1) ↦{fullShare} f)
    ⊢ (iprop(five (fun r => iprop(∃ f, outP (F := F) c 0 r f)) ∗ five (fun r => iprop(∃ f, outP (F := F) c 1 r f))) : sProp 𝕄) := by
  iintro ⟨%f, H⟩
  have h := Ring.pointsTo_blocks (Ix := Unit) (Name := ℕ) (U := Pipeline.UD sig nD τ) (Lvl := ℕ) (ℓ := (c : Thread nD τ).loc cc0_scratch1) (q := fullShare) (fun i : Fin 2 × Fin 5 => tileSet 132 i.1 i.2) (tile_disjoint 132) (tile_cover 132) f
  rw [bigSep_two_five] at h
  simp only [outP_eq]
  ihave H' := (Entails.of_eq h) $$ H
  icases H' with ⟨⟨H0, H1, H2, H3, H4⟩, ⟨J0, J1, J2, J3, J4⟩⟩
  isplitl [H0 H1 H2 H3 H4]
  · isplitl [H0]; · iexists _; iexact H0
    isplitl [H1]; · iexists _; iexact H1
    isplitl [H2]; · iexists _; iexact H2
    isplitl [H3]; · iexists _; iexact H3
    iexists _; iexact H4
  · isplitl [J0]; · iexists _; iexact J0
    isplitl [J1]; · iexists _; iexact J1
    isplitl [J2]; · iexists _; iexact J2
    isplitl [J3]; · iexists _; iexact J3
    iexists _; iexact J4
theorem out_untile : (iprop(five (fun r => iprop(∃ f, outP (F := F) c 0 r f)) ∗ five (fun r => iprop(∃ f, outP (F := F) c 1 r f))) : sProp 𝕄)
    ⊢ iprop(∃ f : Buf (Elt F) ((c : Thread nD τ).loc cc0_scratch1), ((c : Thread nD τ).loc cc0_scratch1) ↦{fullShare} f) := by
  have h := fun f0 : Buf (Elt F) ((c : Thread nD τ).loc cc0_scratch1) => Ring.pointsTo_blocks_join_exists (Ix := Unit) (Name := ℕ) (U := Pipeline.UD sig nD τ) (Lvl := ℕ) (ℓ := (c : Thread nD τ).loc cc0_scratch1) (q := fullShare) (fun i : Fin 2 × Fin 5 => tileSet 132 i.1 i.2) (tile_disjoint 132) (tile_cover 132) f0
  simp only [bigSep_two_five] at h
  simp only [outP_eq]
  iintro ⟨⟨⟨%g, H0⟩, H⟩, J⟩
  iapply (h g)
  isplitl [H0 H]
  · isplitl [H0]
    · iexists g; iexact H0
    iexact H
  iexact J

/-- The input whole is the ten stripes' shares of it. -/
theorem whole_shares : ((((c : Thread nD τ).loc main_arg0) ↦{fullShare} X) : sProp 𝕄) ⊣⊢ iprop(five (fun r => wholeP c X 0 r) ∗ five (fun r => wholeP c X 1 r)) := by
  have k (q : PosShare TreeShare) : ((((c : Thread nD τ).loc main_arg0) ↦{q} X) : sProp 𝕄) = iprop((((c : Thread nD τ).loc main_arg0) ↦{q.left} X) ∗ (((c : Thread nD τ).loc main_arg0) ↦{q.right} X)) :=
    Idealize.SL.BI.Entails.antisymm (pointsTo_share (PosShare.mem_left_op_right q)).1 (pointsTo_share (PosShare.mem_left_op_right q)).2
  suffices h : ((((c : Thread nD τ).loc main_arg0) ↦{fullShare} X) : sProp 𝕄) = iprop(five (fun r => wholeP c X 0 r) ∗ five (fun r => wholeP c X 1 r)) from ⟨Entails.of_eq h, Entails.of_eq h.symm⟩
  unfold wholeP shr five
  rw [k fullShare]
  rw [k fullShare.left, k fullShare.left.right, k fullShare.left.right.right, k fullShare.left.right.right.right]
  rw [k fullShare.right, k fullShare.right.right, k fullShare.right.right.right, k fullShare.right.right.right.right]
  rfl

theorem inCell_0_0 : inCellP (F := F) c 0 0 = semVal ((c : Thread nD τ), SemLoc.dma 2) 0 :=
  congrArg (fun x => (semVal ((c : Thread nD τ), x) 0 : sProp 𝕄)) (by unfold inCellR; rw [inCell_eq]; decide)
theorem inCell_0_1 : inCellP (F := F) c 0 1 = semVal ((c : Thread nD τ), SemLoc.dma 3) 0 :=
  congrArg (fun x => (semVal ((c : Thread nD τ), x) 0 : sProp 𝕄)) (by unfold inCellR; rw [inCell_eq]; decide)
theorem inCell_0_2 : inCellP (F := F) c 0 2 = semVal ((c : Thread nD τ), SemLoc.dma 4) 0 :=
  congrArg (fun x => (semVal ((c : Thread nD τ), x) 0 : sProp 𝕄)) (by unfold inCellR; rw [inCell_eq]; decide)
theorem inCell_0_3 : inCellP (F := F) c 0 3 = semVal ((c : Thread nD τ), SemLoc.dma 5) 0 :=
  congrArg (fun x => (semVal ((c : Thread nD τ), x) 0 : sProp 𝕄)) (by unfold inCellR; rw [inCell_eq]; decide)
theorem inCell_0_4 : inCellP (F := F) c 0 4 = semVal ((c : Thread nD τ), SemLoc.dma 6) 0 :=
  congrArg (fun x => (semVal ((c : Thread nD τ), x) 0 : sProp 𝕄)) (by unfold inCellR; rw [inCell_eq]; decide)
theorem inCell_1_0 : inCellP (F := F) c 1 0 = semVal ((c : Thread nD τ), SemLoc.dma 7) 0 :=
  congrArg (fun x => (semVal ((c : Thread nD τ), x) 0 : sProp 𝕄)) (by unfold inCellR; rw [inCell_eq]; decide)
theorem inCell_1_1 : inCellP (F := F) c 1 1 = semVal ((c : Thread nD τ), SemLoc.dma 8) 0 :=
  congrArg (fun x => (semVal ((c : Thread nD τ), x) 0 : sProp 𝕄)) (by unfold inCellR; rw [inCell_eq]; decide)
theorem inCell_1_2 : inCellP (F := F) c 1 2 = semVal ((c : Thread nD τ), SemLoc.dma 9) 0 :=
  congrArg (fun x => (semVal ((c : Thread nD τ), x) 0 : sProp 𝕄)) (by unfold inCellR; rw [inCell_eq]; decide)
theorem inCell_1_3 : inCellP (F := F) c 1 3 = semVal ((c : Thread nD τ), SemLoc.dma 10) 0 :=
  congrArg (fun x => (semVal ((c : Thread nD τ), x) 0 : sProp 𝕄)) (by unfold inCellR; rw [inCell_eq]; decide)
theorem inCell_1_4 : inCellP (F := F) c 1 4 = semVal ((c : Thread nD τ), SemLoc.dma 11) 0 :=
  congrArg (fun x => (semVal ((c : Thread nD τ), x) 0 : sProp 𝕄)) (by unfold inCellR; rw [inCell_eq]; decide)
theorem outCell_0_0 : outCellP (F := F) c 0 0 = semVal ((c : Thread nD τ), SemLoc.dma 12) 0 :=
  congrArg (fun x => (semVal ((c : Thread nD τ), x) 0 : sProp 𝕄)) (by unfold outCellR; rw [outCell_eq]; decide)
theorem outCell_0_1 : outCellP (F := F) c 0 1 = semVal ((c : Thread nD τ), SemLoc.dma 13) 0 :=
  congrArg (fun x => (semVal ((c : Thread nD τ), x) 0 : sProp 𝕄)) (by unfold outCellR; rw [outCell_eq]; decide)
theorem outCell_0_2 : outCellP (F := F) c 0 2 = semVal ((c : Thread nD τ), SemLoc.dma 14) 0 :=
  congrArg (fun x => (semVal ((c : Thread nD τ), x) 0 : sProp 𝕄)) (by unfold outCellR; rw [outCell_eq]; decide)
theorem outCell_0_3 : outCellP (F := F) c 0 3 = semVal ((c : Thread nD τ), SemLoc.dma 15) 0 :=
  congrArg (fun x => (semVal ((c : Thread nD τ), x) 0 : sProp 𝕄)) (by unfold outCellR; rw [outCell_eq]; decide)
theorem outCell_0_4 : outCellP (F := F) c 0 4 = semVal ((c : Thread nD τ), SemLoc.dma 16) 0 :=
  congrArg (fun x => (semVal ((c : Thread nD τ), x) 0 : sProp 𝕄)) (by unfold outCellR; rw [outCell_eq]; decide)
theorem outCell_1_0 : outCellP (F := F) c 1 0 = semVal ((c : Thread nD τ), SemLoc.dma 17) 0 :=
  congrArg (fun x => (semVal ((c : Thread nD τ), x) 0 : sProp 𝕄)) (by unfold outCellR; rw [outCell_eq]; decide)
theorem outCell_1_1 : outCellP (F := F) c 1 1 = semVal ((c : Thread nD τ), SemLoc.dma 18) 0 :=
  congrArg (fun x => (semVal ((c : Thread nD τ), x) 0 : sProp 𝕄)) (by unfold outCellR; rw [outCell_eq]; decide)
theorem outCell_1_2 : outCellP (F := F) c 1 2 = semVal ((c : Thread nD τ), SemLoc.dma 19) 0 :=
  congrArg (fun x => (semVal ((c : Thread nD τ), x) 0 : sProp 𝕄)) (by unfold outCellR; rw [outCell_eq]; decide)
theorem outCell_1_3 : outCellP (F := F) c 1 3 = semVal ((c : Thread nD τ), SemLoc.dma 20) 0 :=
  congrArg (fun x => (semVal ((c : Thread nD τ), x) 0 : sProp 𝕄)) (by unfold outCellR; rw [outCell_eq]; decide)
theorem outCell_1_4 : outCellP (F := F) c 1 4 = semVal ((c : Thread nD τ), SemLoc.dma 21) 0 :=
  congrArg (fun x => (semVal ((c : Thread nD τ), x) 0 : sProp 𝕄)) (by unfold outCellR; rw [outCell_eq]; decide)

end

end Cert.KernelIdeal.Own

end
-- ==== Proof.KernelIdeal.Spec.lean ====
/- The result, index by index, and that what one grid point stores is its block of it. -/
module

public import proofs.«01_k».proof.Proof.KernelIdeal.Values
public import Idealize.ShloMosaic.Lib.Pipeline.Value

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The group node `n` belongs to: group `g` is the eight nodes from `1000 g`, and every other node is in group 0. -/
def gid (n : ℕ) : Fin 8 := ⟨if n < 8000 ∧ n % 1000 < 8 then n / 1000 else 0, by split <;> omega⟩

/-- Column `k` of node `n`'s row: the input's columns, then group `e`'s row of `g`, then parity `p`'s row of `h`. -/
def entry (X : S100000x128.Idx → Elt F .f32) (g : S8x2.Idx → Elt F .f32) (h : S2x2.Idx → Elt F .f32) (n : Fin 100000) (e : Fin 8) (p : Fin 2) (k : Fin 132) : Elt F .f32 :=
  if h1 : k.val < 128 then X (ix2 n ⟨k.val, h1⟩)
  else if h2 : k.val < 130 then g (ix2 e ⟨k.val - 128, by omega⟩)
  else h (ix2 p ⟨k.val - 130, by omega⟩)

/-- The result: every node's row with its own group's and its own parity's rows. -/
def resOf (X : S100000x128.Idx → Elt F .f32) (g : S8x2.Idx → Elt F .f32) (h : S2x2.Idx → Elt F .f32) : S100000x132.Idx → Elt F .f32 := fun i =>
  entry X g h (i 0) (gid (i 0).val) ⟨(i 0).val % 2, Nat.mod_lt _ (by decide)⟩ (i 1)

/-- The group of row `j` of a slot once the groups up to `n` have been written. -/
def grp (n : Fin 8) (j : ℕ) : Fin 8 := ⟨if j / 1000 ≤ n.val ∧ j % 1000 < 8 then j / 1000 else 0, by have := n.isLt; split <;> omega⟩
/-- A slot of block `b` once the rows of the groups up to `n` have been written (in block 0; the rows of any other block are in group 0). -/
def part (n : Fin 8) (X : S100000x128.Idx → Elt F .f32) (g : S8x2.Idx → Elt F .f32) (h : S2x2.Idx → Elt F .f32) (b : Fin 10) : S2x10000x132.Idx → Elt F .f32 := fun i =>
  entry X g h ⟨10000 * b.val + (i 1).val, by have := b.isLt; have : (i 1).val < 10000 := (i 1).isLt; omega⟩ (grp n (i 1).val) ⟨(i 1).val % 2, Nat.mod_lt _ (by decide)⟩ (i 2)

section
variable (X : S100000x128.Idx → Elt F .f32) (g : S8x2.Idx → Elt F .f32) (h : S2x2.Idx → Elt F .f32)

/-- Where the groups and parities agree so do the slots; -/
theorem part_eq (n : Fin 8) (b : Fin 10) (hg : ∀ j : ℕ, j < 10000 → grp n j = gid (10000 * b.val + j)) : part n X g h b = outOf (resOf X g h) b := by
  funext i
  have hi : (i 1).val < 10000 := (i 1).isLt
  refine congrArg₂ (fun e p => entry X g h _ e p (i 2)) (hg _ hi) (Fin.ext ?_)
  show (i 1).val % 2 = (10000 * b.val + (i 1).val) % 2
  omega
/-- in a block other than block 0 nothing more is written; -/
theorem part_zero_eq (b : Fin 10) (hb : 1 ≤ b.val) : part 0 X g h b = outOf (resOf X g h) b :=
  part_eq X g h 0 b fun j hj => Fin.ext (by
    show (if j / 1000 ≤ 0 ∧ j % 1000 < 8 then j / 1000 else 0) = if 10000 * b.val + j < 8000 ∧ (10000 * b.val + j) % 1000 < 8 then (10000 * b.val + j) / 1000 else 0
    split <;> split <;> omega)
/-- in block 0 all seven groups. -/
theorem part_seven_eq (b : Fin 10) (hb : b.val = 0) : part 7 X g h b = outOf (resOf X g h) b :=
  part_eq X g h 7 b fun j hj => Fin.ext (by
    show (if j / 1000 ≤ 7 ∧ j % 1000 < 8 then j / 1000 else 0) = if 10000 * b.val + j < 8000 ∧ (10000 * b.val + j) % 1000 < 8 then (10000 * b.val + j) / 1000 else 0
    rw [hb]
    split <;> split <;> omega)
end

/-! ## Stores and loads, index by index -/

/-- A store into a box of one slot of the result scratch, at an element of that slot. -/
theorem write_box {m n : ℕ} (s : Fin 2) (a b : ℕ) {o : Fin 3 → ℕ} (ho : o = ![s.val, a, b]) (inb : ∀ k, o k + (![1, m, n] : Fin 3 → ℕ) k ≤ S2x10000x132.size k)
    (f : S2x10000x132.Idx → Elt F .f32) (w : (⟨3, ![1, m, n]⟩ : Shape).Idx → Elt F .f32) (i : S2x10000x132.Idx) (hi : (i 0).val = s.val) :
    (outM.access (Rect.unit (s := S2x10000x132) o ![1, m, n] inb)).write (Elt F) f w Finset.univ i
      = if h : (a ≤ (i 1).val ∧ (i 1).val < a + m) ∧ (b ≤ (i 2).val ∧ (i 2).val < b + n) then
          w (ix3 ⟨0, Nat.one_pos⟩ ⟨(i 1).val - a, by omega⟩ ⟨(i 2).val - b, by omega⟩) else f i := by
  subst ho
  split
  · rename_i h
    have e : (outM.access (Rect.unit (s := S2x10000x132) ![s.val, a, b] ![1, m, n] inb)).emb (ix3 ⟨0, Nat.one_pos⟩ ⟨(i 1).val - a, by omega⟩ ⟨(i 2).val - b, by omega⟩) = i := by
      show (Rect.unit (s := S2x10000x132) ![s.val, a, b] ![1, m, n] inb).emb _ = i
      funext k; refine Fin.ext ?_
      rw [Rect.emb_apply]
      fin_cases k <;> simp [Rect.unit] <;> omega
    have := View.write_emb (v := outM.access (Rect.unit (s := S2x10000x132) ![s.val, a, b] ![1, m, n] inb)) (Val := Elt F) f w Finset.univ (ix3 ⟨0, Nat.one_pos⟩ ⟨(i 1).val - a, by omega⟩ ⟨(i 2).val - b, by omega⟩)
    rw [if_pos (Finset.mem_univ _)] at this
    rw [e] at this
    exact this
  · rename_i h
    refine View.write_of_not_mem _ _ _ ?_
    intro hm
    obtain ⟨x, -, hx⟩ := Finset.mem_map.mp hm
    have hx' : (Rect.unit (s := S2x10000x132) ![s.val, a, b] ![1, m, n] inb).emb x = i := hx
    subst hx'
    have x1 : (x 1).val < m := (x 1).isLt
    have x2 : (x 2).val < n := (x 2).isLt
    refine h ⟨⟨?_, ?_⟩, ?_, ?_⟩ <;> rw [Rect.emb_apply] <;> simp [Rect.unit] <;> omega

/-- A load of a whole slot of the input scratch. -/
theorem load_slot (s : Fin 2) {o : Fin 3 → ℕ} (ho : o = ![s.val, 0, 0]) (inb : ∀ k, o k + S1x10000x128.size k ≤ S2x10000x128.size k)
    (f : S2x10000x128.Idx → Elt F .f32) (j : Fin 10000) (k : Fin 128) :
    inM.view.readAt (Elt F) (Rect.unit (s := S2x10000x128) o S1x10000x128.size inb).toLoadRect f (ix3 ⟨0, Nat.one_pos⟩ j k) = f (ix3 s j k) := by
  subst ho
  refine congrArg f ?_
  funext q; refine Fin.ext ?_
  show (![s.val, 0, 0] : Fin 3 → ℕ) q + 1 * (ix3 (⟨0, Nat.one_pos⟩ : Fin 1) j k q).val = _
  fin_cases q <;> simp
/-- A load of a row of the group table and of the parity table. -/
theorem load_row2 {m : ℕ} {M : Memref sig .tc .vmem ⟨2, ![m, 2]⟩ .f32} (hM : M.IsWhole) (x : Vec F ⟨2, ![m, 2]⟩ .f32) (r : Fin m)
    (inb : ∀ k, (![r.val, 0] : Fin 2 → ℕ) k + S1x2.size k ≤ (⟨2, ![m, 2]⟩ : Shape).size k) (k : Fin 2) :
    M.view.readAt (Elt F) (Rect.unit (s := ⟨2, ![m, 2]⟩) ![r.val, 0] S1x2.size inb).toLoadRect (hM.unread x) (ix2 ⟨0, Nat.one_pos⟩ k) = x (ix2 r k) := by
  have := congrFun (hM.read_unread x) (ix2 r k)
  refine Eq.trans ?_ this
  refine congrArg (M.view.read (Elt F) (hM.unread x)) ?_
  funext q; refine Fin.ext ?_
  fin_cases q <;> simp [Rect.unit, Rect.toLoadRect] <;> rfl

/-! ## The payloads, index by index -/

/-- A table row broadcast over the rows of a box. -/
theorem row_at {m : ℕ} (v : FVec F S1x2 .f32) (h1 : S1x2.ShapeCasts S1x2) (h2 : S1x2.Broadcasts ⟨2, ![m, 2]⟩) (h3 : (⟨2, ![m, 2]⟩ : Shape).ShapeCasts ⟨3, ![1, m, 2]⟩) (j : Fin m) (k : Fin 2) :
    shapeCast ⟨3, ![1, m, 2]⟩ (broadcastTo ⟨2, ![m, 2]⟩ (shapeCast S1x2 v h1) h2) h3 (ix3 ⟨0, Nat.one_pos⟩ j k) = v (ix2 ⟨0, Nat.one_pos⟩ k) := by
  rw [shapeCast_self]
  exact (ValueIdx.shapeCast_ab_1ab_apply _ _ _ _ _).trans (ValueIdx.broadcastTo_1b_ab_apply _ _ _ _)

/-- The two tables' rows side by side. -/
theorem pair_at (u v : FVec F S1x2 .f32) (k : Fin 4) :
    concatenate S1x4 1 [⟨S1x2, u⟩, ⟨S1x2, v⟩] concatenates_S1x2_S1x2_S1x4_d1 (ix2 ⟨0, Nat.one_pos⟩ k)
      = if h : k.val < 2 then u (ix2 ⟨0, Nat.one_pos⟩ ⟨k.val, h⟩) else v (ix2 ⟨0, Nat.one_pos⟩ ⟨k.val - 2, by omega⟩) := by
  split
  · rename_i h
    exact concatenate_pair_apply_left (t := S1x4) (s₁ := S1x2) (s₂ := S1x2) 1 u v concatenates_S1x2_S1x2_S1x4_d1 _ rfl (ix2 ⟨0, Nat.one_pos⟩ ⟨k.val, h⟩) fun b => by fin_cases b <;> rfl
  · rename_i h
    refine concatenate_pair_apply_right (t := S1x4) (s₁ := S1x2) (s₂ := S1x2) 1 u v concatenates_S1x2_S1x2_S1x4_d1 _ rfl rfl (ix2 ⟨0, Nat.one_pos⟩ ⟨k.val - 2, by omega⟩) (fun b hb => ?_) ?_
    · fin_cases b
      · rfl
      · exact absurd rfl hb
    · show k.val - 2 + 2 = k.val
      omega

/-- The lowest bit of a row's number. -/
theorem parity (a j : ℕ) : Scalar.muli (BitVec.ofNat 32 a) 10000#32 + BitVec.ofNat 32 j &&& 1#32 = 1#32 ↔ j % 2 = 1 := by
  unfold Scalar.muli IntOp.muli
  rw [← BitVec.toNat_inj]
  simp
  omega

theorem pay3_at (a : ℕ) (u0 v0 u1 v1 : FVec F S1x2 .f32) (j : Fin 10000) (k : Fin 4) :
    k0_pay3 (Scalar.muli (BitVec.ofNat 32 a) 10000#32) (k0_pay2 u0 v0) u1 v1 (ix3 ⟨0, Nat.one_pos⟩ j k)
      = if j.val % 2 = 1 then (if h : k.val < 2 then u1 (ix2 ⟨0, Nat.one_pos⟩ ⟨k.val, h⟩) else v1 (ix2 ⟨0, Nat.one_pos⟩ ⟨k.val - 2, by omega⟩))
        else (if h : k.val < 2 then u0 (ix2 ⟨0, Nat.one_pos⟩ ⟨k.val, h⟩) else v0 (ix2 ⟨0, Nat.one_pos⟩ ⟨k.val - 2, by omega⟩)) := by
  unfold k0_pay3 k0_pay2
  refine (ValueIdx.shapeCast_ab_1ab_apply _ _ _ _ _).trans ?_
  have hp : cmpi .eq (andi (addi (broadcast S10000x4 (Scalar.muli (BitVec.ofNat 32 a) 10000#32)) (iota Kind.tc S10000x4 32 [0] iota_S10000x4_d0_w32)) (broadcast S10000x4 1#32)) (broadcast S10000x4 1#32) (ValueIdx.ix2 j k) = 1#1 ↔ j.val % 2 = 1 := by
    rw [← parity a j.val]
    show BitVec.ofBool (Scalar.muli (BitVec.ofNat 32 a) 10000#32 + BitVec.ofNat 32 (0 * 10000 + j.val) &&& 1#32 == 1#32) = 1#1 ↔ _
    rw [Nat.zero_mul, Nat.zero_add]
    cases hb : (Scalar.muli (BitVec.ofNat 32 a) 10000#32 + BitVec.ofNat 32 j.val &&& 1#32 == 1#32)
    · rw [beq_eq_false_iff_ne] at hb; exact ⟨fun h => absurd h (by decide), fun h => absurd h hb⟩
    · rw [beq_iff_eq] at hb; exact ⟨fun _ => hb, fun _ => rfl⟩
  refine (if_congr hp ?_ ?_ : (if _ then _ else _) = _)
  · rw [shapeCast_self]; exact (ValueIdx.broadcastTo_1b_ab_apply _ _ _ _).trans (pair_at u1 v1 k)
  · rw [shapeCast_self]; exact (ValueIdx.broadcastTo_1b_ab_apply _ _ _ _).trans (pair_at u0 v0 k)

theorem pay1_at (v : Vec F S1x10000x128 .f32) (j : Fin 10000) (k : Fin 128) : k0_pay1 v (ix3 ⟨0, Nat.one_pos⟩ j k) = v (ix3 ⟨0, Nat.one_pos⟩ j k) := by
  unfold k0_pay1
  refine (ValueIdx.shapeCast_ab_1ab_apply _ _ _ _ _).trans ?_
  exact ValueIdx.shapeCast_1ab_ab_apply _ _ _ _

/-! ## A slot after the stores -/

section
variable (t : Fin grid0.N) (X : S100000x128.Idx → Elt F .f32) (g : S8x2.Idx → Elt F .f32) (h : S2x2.Idx → Elt F .f32)
  (f : S2x10000x132.Idx → Elt F .f32)

/-- The input's columns and the four columns beside them: the slot with every node in group 0. -/
theorem stored_base (v49 : Vec F S1x10000x128 .f32) (u0 v0 u1 v1 : FVec F S1x2 .f32)
    (h49 : ∀ j k, v49 (ix3 ⟨0, Nat.one_pos⟩ j k) = inOf X (blockAt t.val) (ix3 (slotAt t.val) j k))
    (hu0 : ∀ k, u0 (ix2 ⟨0, Nat.one_pos⟩ k) = g (ix2 0 k)) (hv0 : ∀ k, v0 (ix2 ⟨0, Nat.one_pos⟩ k) = h (ix2 0 k))
    (hu1 : ∀ k, u1 (ix2 ⟨0, Nat.one_pos⟩ k) = g (ix2 0 k)) (hv1 : ∀ k, v1 (ix2 ⟨0, Nat.one_pos⟩ k) = h (ix2 1 k)) :
    ∀ i ∈ slotSet 132 (slotAt t.val),
      (outM.access (Rect.unit (s := S2x10000x132) (k0_off36 (grid0.coords t)) S1x10000x4.size (k0_off36_inb (grid0.coords t)))).write (Elt F)
        ((outM.access (Rect.unit (s := S2x10000x132) (k0_off35 (grid0.coords t)) S1x10000x128.size (k0_off35_inb (grid0.coords t)))).write (Elt F) f (k0_pay1 v49) Finset.univ)
        (k0_pay3 (Scalar.muli (BitVec.ofNat 32 (grid0.coords t 0).val) 10000#32) (k0_pay2 u0 v0) u1 v1) Finset.univ i
      = part 0 X g h (blockAt t.val) i := by
  intro i hi
  rw [mem_slotSet] at hi
  have i1 : (i 1).val < 10000 := (i 1).isLt
  have i2 : (i 2).val < 132 := (i 2).isLt
  refine (write_box (m := 10000) (n := 4) (slotAt t.val) 0 128 (off36_eq t) _ _ _ i hi).trans ?_
  have hgrp : grp 0 (i 1).val = 0 := Fin.ext (by show (if (i 1).val / 1000 ≤ 0 ∧ (i 1).val % 1000 < 8 then (i 1).val / 1000 else 0) = 0; split <;> omega)
  unfold part entry
  rw [hgrp]
  by_cases h1 : (i 2).val < 128
  · rw [dif_neg (by omega)]
    refine ((write_box (m := 10000) (n := 128) (slotAt t.val) 0 0 (off35_eq t) _ f _ i hi).trans (dif_pos ⟨⟨by omega, by omega⟩, by omega, by omega⟩)).trans ?_
    refine ((pay1_at v49 _ _).trans (h49 _ _)).trans (Eq.trans ?_ (dif_pos h1).symm)
    exact congrArg X (congrArg₂ ix2 (Fin.ext rfl) (Fin.ext rfl))
  · rw [dif_pos ⟨⟨by omega, by omega⟩, by omega, by omega⟩]
    refine (pay3_at _ _ _ _ _ _ _).trans (Eq.trans ?_ (dif_neg h1).symm)
    by_cases h2 : (i 2).val < 130
    · have h2' : (i 2).val - 128 < 2 := by omega
      refine Eq.trans ?_ (dif_pos h2).symm
      rw [dif_pos h2', dif_pos h2', hu0, hu1, ite_self]
    · have h2' : ¬(i 2).val - 128 < 2 := by omega
      refine Eq.trans ?_ (dif_neg h2).symm
      rw [dif_neg h2', dif_neg h2', hv0, hv1]
      split
      · rename_i hp
        exact congrArg h (congrArg₂ ix2 (Fin.ext (by show 1 = (i 1).val % 2; simp at hp; omega)) (Fin.ext (by show (i 2).val - 128 - 2 = (i 2).val - 130; omega)))
      · rename_i hp
        exact congrArg h (congrArg₂ ix2 (Fin.ext (by show 0 = (i 1).val % 2; simp at hp; omega)) (Fin.ext (by show (i 2).val - 128 - 2 = (i 2).val - 130; omega)))

/-- Writing the next group's eight rows. -/
theorem stored_group (n m : Fin 8) (hm : m.val = n.val + 1) (s : Fin 2) (b : Fin 10) {o : Fin 3 → ℕ} (ho : o = ![s.val, 1000 * m.val, 128]) (inb : ∀ k, o k + S1x8x2.size k ≤ S2x10000x132.size k)
    (w : FVec F S1x8x2 .f32) (hw : ∀ j k, w (ix3 ⟨0, Nat.one_pos⟩ j k) = g (ix2 m k))
    (hf : ∀ i ∈ slotSet 132 s, f i = part n X g h b i) :
    ∀ i ∈ slotSet 132 s, (outM.access (Rect.unit (s := S2x10000x132) o S1x8x2.size inb)).write (Elt F) f w Finset.univ i = part m X g h b i := by
  intro i hi
  have hs := mem_slotSet.1 hi
  have i1 : (i 1).val < 10000 := (i 1).isLt
  refine (write_box (m := 8) (n := 2) s (1000 * m.val) 128 ho _ f w i hs).trans ?_
  split
  · rename_i hb
    refine (hw _ _).trans (Eq.symm ?_)
    unfold part entry
    refine (dif_neg (by omega)).trans ((dif_pos (by omega)).trans ?_)
    refine congrArg g (congrArg₂ ix2 (Fin.ext ?_) rfl)
    show (if (i 1).val / 1000 ≤ m.val ∧ (i 1).val % 1000 < 8 then (i 1).val / 1000 else 0) = m.val
    rw [if_pos (by omega)]; omega
  · rename_i hb
    rw [hf i hi]
    unfold part
    by_cases hk : (i 2).val < 128
    · unfold entry; rw [dif_pos hk, dif_pos hk]
    by_cases hk' : (i 2).val < 130
    · refine congrArg (fun e => entry X g h _ e _ (i 2)) (Fin.ext ?_)
      show (if (i 1).val / 1000 ≤ n.val ∧ (i 1).val % 1000 < 8 then (i 1).val / 1000 else 0) = if (i 1).val / 1000 ≤ m.val ∧ (i 1).val % 1000 < 8 then (i 1).val / 1000 else 0
      split <;> split <;> omega
    · unfold entry; rw [dif_neg hk, dif_neg hk', dif_neg hk, dif_neg hk']
end

/-! ## The slot's contents at every grid point -/

section
variable (t : Fin grid0.N) (X : S100000x128.Idx → Elt F .f32)
  (arg2 : Memref sig .tc .vmem S8x2 .f32) (harg2 : arg2.IsWhole) (arg3 : Memref sig .tc .vmem S2x2 .f32) (harg3 : arg3.IsWhole)
  (x0 : Vec F S8x2 .f32) (x1 : Vec F S2x2 .f32) (fo : S2x10000x132.Idx → Elt F .f32)

/-- What the two stores of every grid point leave of contents `fo`. -/
def afterStores : S2x10000x132.Idx → Elt F .f32 :=
  (outM.access (Rect.unit (s := S2x10000x132) (k0_off36 (grid0.coords t)) S1x10000x4.size (k0_off36_inb (grid0.coords t)))).write (Elt F)
    ((outM.access (Rect.unit (s := S2x10000x132) (k0_off35 (grid0.coords t)) S1x10000x128.size (k0_off35_inb (grid0.coords t)))).write (Elt F) fo
      (k0_pay1 (inM.view.readAt (Elt F) (Rect.unit (s := S2x10000x128) (k0_off34 (grid0.coords t)) S1x10000x128.size (k0_off34_inb (grid0.coords t))).toLoadRect (inOf X (blockAt t.val)))) Finset.univ)
    (k0_pay3 (Scalar.muli (BitVec.ofNat 32 (grid0.coords t 0).val) 10000#32)
      (k0_pay2 (arg2.view.readAt (Elt F) (Rect.unit (s := S8x2) ![0, 0] S1x2.size inb_S8x2_S1x2_0_0).toLoadRect (harg2.unread x0)) (arg3.view.readAt (Elt F) (Rect.unit (s := S2x2) ![0, 0] S1x2.size inb_S2x2_S1x2_0_0).toLoadRect (harg3.unread x1)))
      (arg2.view.readAt (Elt F) (Rect.unit (s := S8x2) ![0, 0] S1x2.size inb_S8x2_S1x2_0_0).toLoadRect (harg2.unread x0)) (arg3.view.readAt (Elt F) (Rect.unit (s := S2x2) ![1, 0] S1x2.size inb_S2x2_S1x2_1_0).toLoadRect (harg3.unread x1))) Finset.univ

theorem afterStores_part : ∀ i ∈ slotSet 132 (slotAt t.val), afterStores t X arg2 harg2 arg3 harg3 x0 x1 fo i = part 0 X x0 x1 (blockAt t.val) i :=
  stored_base t X x0 x1 fo _ _ _ _ _ (load_slot (slotAt t.val) (off34_eq t) _ _) (load_row2 harg2 x0 0 _) (load_row2 harg3 x1 0 _) (load_row2 harg2 x0 0 _) (load_row2 harg3 x1 1 _)

/-- After block 0 the slot holds its block of the result. -/
theorem afterStores_eq (ht : 1 ≤ t.val) : ∀ i ∈ slotSet 132 (slotAt t.val), afterStores t X arg2 harg2 arg3 harg3 x0 x1 fo i = outOf (resOf X x0 x1) (blockAt t.val) i := by
  intro i hi
  have hN : t.val < 10 := t.isLt
  rw [afterStores_part t X arg2 harg2 arg3 harg3 x0 x1 fo i hi, part_zero_eq X x0 x1 _ (by rw [blockAt_val]; omega)]

/-- Block 0 once group 1's rows are written. -/
def afterGroup1 (k0_h4 : k0_cond4 (grid0.coords t) = 1#1) : S2x10000x132.Idx → Elt F .f32 :=
  (outM.access (Rect.unit (s := S2x10000x132) (k0_off37 (grid0.coords t)) S1x8x2.size (k0_off37_inb (grid0.coords t) k0_h4))).write (Elt F) (afterStores t X arg2 harg2 arg3 harg3 x0 x1 fo)
    (k0_pay4 (arg2.view.readAt (Elt F) (Rect.unit (s := S8x2) ![1, 0] S1x2.size inb_S8x2_S1x2_1_0).toLoadRect (harg2.unread x0))) Finset.univ
theorem afterGroup1_part (ht : t.val = 0) (k0_h4 : k0_cond4 (grid0.coords t) = 1#1) : ∀ i ∈ slotSet 132 (slotAt t.val), afterGroup1 t X arg2 harg2 arg3 harg3 x0 x1 fo k0_h4 i = part 1 X x0 x1 (blockAt t.val) i :=
  stored_group X x0 x1 _ 0 1 rfl (slotAt t.val) (blockAt t.val) (off37_eq t ht) _ _ (fun j k => (row_at _ _ _ _ j k).trans (load_row2 harg2 x0 1 _ k)) (afterStores_part t X arg2 harg2 arg3 harg3 x0 x1 fo)

/-- Block 0 once group 2's rows are written. -/
def afterGroup2 (k0_h4 : k0_cond4 (grid0.coords t) = 1#1) (k0_h5 : k0_cond5 (grid0.coords t) = 1#1) : S2x10000x132.Idx → Elt F .f32 :=
  (outM.access (Rect.unit (s := S2x10000x132) (k0_off38 (grid0.coords t)) S1x8x2.size (k0_off38_inb (grid0.coords t) k0_h5))).write (Elt F) (afterGroup1 t X arg2 harg2 arg3 harg3 x0 x1 fo k0_h4)
    (k0_pay5 (arg2.view.readAt (Elt F) (Rect.unit (s := S8x2) ![2, 0] S1x2.size inb_S8x2_S1x2_2_0).toLoadRect (harg2.unread x0))) Finset.univ
theorem afterGroup2_part (ht : t.val = 0) (k0_h4 : k0_cond4 (grid0.coords t) = 1#1) (k0_h5 : k0_cond5 (grid0.coords t) = 1#1) : ∀ i ∈ slotSet 132 (slotAt t.val), afterGroup2 t X arg2 harg2 arg3 harg3 x0 x1 fo k0_h4 k0_h5 i = part 2 X x0 x1 (blockAt t.val) i :=
  stored_group X x0 x1 _ 1 2 rfl (slotAt t.val) (blockAt t.val) (off38_eq t ht) _ _ (fun j k => (row_at _ _ _ _ j k).trans (load_row2 harg2 x0 2 _ k)) (afterGroup1_part t X arg2 harg2 arg3 harg3 x0 x1 fo ht k0_h4)

/-- Block 0 once group 3's rows are written. -/
def afterGroup3 (k0_h4 : k0_cond4 (grid0.coords t) = 1#1) (k0_h5 : k0_cond5 (grid0.coords t) = 1#1) (k0_h6 : k0_cond6 (grid0.coords t) = 1#1) : S2x10000x132.Idx → Elt F .f32 :=
  (outM.access (Rect.unit (s := S2x10000x132) (k0_off39 (grid0.coords t)) S1x8x2.size (k0_off39_inb (grid0.coords t) k0_h6))).write (Elt F) (afterGroup2 t X arg2 harg2 arg3 harg3 x0 x1 fo k0_h4 k0_h5)
    (k0_pay6 (arg2.view.readAt (Elt F) (Rect.unit (s := S8x2) ![3, 0] S1x2.size inb_S8x2_S1x2_3_0).toLoadRect (harg2.unread x0))) Finset.univ
theorem afterGroup3_part (ht : t.val = 0) (k0_h4 : k0_cond4 (grid0.coords t) = 1#1) (k0_h5 : k0_cond5 (grid0.coords t) = 1#1) (k0_h6 : k0_cond6 (grid0.coords t) = 1#1) : ∀ i ∈ slotSet 132 (slotAt t.val), afterGroup3 t X arg2 harg2 arg3 harg3 x0 x1 fo k0_h4 k0_h5 k0_h6 i = part 3 X x0 x1 (blockAt t.val) i :=
  stored_group X x0 x1 _ 2 3 rfl (slotAt t.val) (blockAt t.val) (off39_eq t ht) _ _ (fun j k => (row_at _ _ _ _ j k).trans (load_row2 harg2 x0 3 _ k)) (afterGroup2_part t X arg2 harg2 arg3 harg3 x0 x1 fo ht k0_h4 k0_h5)

/-- Block 0 once group 4's rows are written. -/
def afterGroup4 (k0_h4 : k0_cond4 (grid0.coords t) = 1#1) (k0_h5 : k0_cond5 (grid0.coords t) = 1#1) (k0_h6 : k0_cond6 (grid0.coords t) = 1#1) (k0_h7 : k0_cond7 (grid0.coords t) = 1#1) : S2x10000x132.Idx → Elt F .f32 :=
  (outM.access (Rect.unit (s := S2x10000x132) (k0_off40 (grid0.coords t)) S1x8x2.size (k0_off40_inb (grid0.coords t) k0_h7))).write (Elt F) (afterGroup3 t X arg2 harg2 arg3 harg3 x0 x1 fo k0_h4 k0_h5 k0_h6)
    (k0_pay7 (arg2.view.readAt (Elt F) (Rect.unit (s := S8x2) ![4, 0] S1x2.size inb_S8x2_S1x2_4_0).toLoadRect (harg2.unread x0))) Finset.univ
theorem afterGroup4_part (ht : t.val = 0) (k0_h4 : k0_cond4 (grid0.coords t) = 1#1) (k0_h5 : k0_cond5 (grid0.coords t) = 1#1) (k0_h6 : k0_cond6 (grid0.coords t) = 1#1) (k0_h7 : k0_cond7 (grid0.coords t) = 1#1) : ∀ i ∈ slotSet 132 (slotAt t.val), afterGroup4 t X arg2 harg2 arg3 harg3 x0 x1 fo k0_h4 k0_h5 k0_h6 k0_h7 i = part 4 X x0 x1 (blockAt t.val) i :=
  stored_group X x0 x1 _ 3 4 rfl (slotAt t.val) (blockAt t.val) (off40_eq t ht) _ _ (fun j k => (row_at _ _ _ _ j k).trans (load_row2 harg2 x0 4 _ k)) (afterGroup3_part t X arg2 harg2 arg3 harg3 x0 x1 fo ht k0_h4 k0_h5 k0_h6)

/-- Block 0 once group 5's rows are written. -/
def afterGroup5 (k0_h4 : k0_cond4 (grid0.coords t) = 1#1) (k0_h5 : k0_cond5 (grid0.coords t) = 1#1) (k0_h6 : k0_cond6 (grid0.coords t) = 1#1) (k0_h7 : k0_cond7 (grid0.coords t) = 1#1) (k0_h8 : k0_cond8 (grid0.coords t) = 1#1) : S2x10000x132.Idx → Elt F .f32 :=
  (outM.access (Rect.unit (s := S2x10000x132) (k0_off41 (grid0.coords t)) S1x8x2.size (k0_off41_inb (grid0.coords t) k0_h8))).write (Elt F) (afterGroup4 t X arg2 harg2 arg3 harg3 x0 x1 fo k0_h4 k0_h5 k0_h6 k0_h7)
    (k0_pay8 (arg2.view.readAt (Elt F) (Rect.unit (s := S8x2) ![5, 0] S1x2.size inb_S8x2_S1x2_5_0).toLoadRect (harg2.unread x0))) Finset.univ
theorem afterGroup5_part (ht : t.val = 0) (k0_h4 : k0_cond4 (grid0.coords t) = 1#1) (k0_h5 : k0_cond5 (grid0.coords t) = 1#1) (k0_h6 : k0_cond6 (grid0.coords t) = 1#1) (k0_h7 : k0_cond7 (grid0.coords t) = 1#1) (k0_h8 : k0_cond8 (grid0.coords t) = 1#1) : ∀ i ∈ slotSet 132 (slotAt t.val), afterGroup5 t X arg2 harg2 arg3 harg3 x0 x1 fo k0_h4 k0_h5 k0_h6 k0_h7 k0_h8 i = part 5 X x0 x1 (blockAt t.val) i :=
  stored_group X x0 x1 _ 4 5 rfl (slotAt t.val) (blockAt t.val) (off41_eq t ht) _ _ (fun j k => (row_at _ _ _ _ j k).trans (load_row2 harg2 x0 5 _ k)) (afterGroup4_part t X arg2 harg2 arg3 harg3 x0 x1 fo ht k0_h4 k0_h5 k0_h6 k0_h7)

/-- Block 0 once group 6's rows are written. -/
def afterGroup6 (k0_h4 : k0_cond4 (grid0.coords t) = 1#1) (k0_h5 : k0_cond5 (grid0.coords t) = 1#1) (k0_h6 : k0_cond6 (grid0.coords t) = 1#1) (k0_h7 : k0_cond7 (grid0.coords t) = 1#1) (k0_h8 : k0_cond8 (grid0.coords t) = 1#1) (k0_h9 : k0_cond9 (grid0.coords t) = 1#1) : S2x10000x132.Idx → Elt F .f32 :=
  (outM.access (Rect.unit (s := S2x10000x132) (k0_off42 (grid0.coords t)) S1x8x2.size (k0_off42_inb (grid0.coords t) k0_h9))).write (Elt F) (afterGroup5 t X arg2 harg2 arg3 harg3 x0 x1 fo k0_h4 k0_h5 k0_h6 k0_h7 k0_h8)
    (k0_pay9 (arg2.view.readAt (Elt F) (Rect.unit (s := S8x2) ![6, 0] S1x2.size inb_S8x2_S1x2_6_0).toLoadRect (harg2.unread x0))) Finset.univ
theorem afterGroup6_part (ht : t.val = 0) (k0_h4 : k0_cond4 (grid0.coords t) = 1#1) (k0_h5 : k0_cond5 (grid0.coords t) = 1#1) (k0_h6 : k0_cond6 (grid0.coords t) = 1#1) (k0_h7 : k0_cond7 (grid0.coords t) = 1#1) (k0_h8 : k0_cond8 (grid0.coords t) = 1#1) (k0_h9 : k0_cond9 (grid0.coords t) = 1#1) : ∀ i ∈ slotSet 132 (slotAt t.val), afterGroup6 t X arg2 harg2 arg3 harg3 x0 x1 fo k0_h4 k0_h5 k0_h6 k0_h7 k0_h8 k0_h9 i = part 6 X x0 x1 (blockAt t.val) i :=
  stored_group X x0 x1 _ 5 6 rfl (slotAt t.val) (blockAt t.val) (off42_eq t ht) _ _ (fun j k => (row_at _ _ _ _ j k).trans (load_row2 harg2 x0 6 _ k)) (afterGroup5_part t X arg2 harg2 arg3 harg3 x0 x1 fo ht k0_h4 k0_h5 k0_h6 k0_h7 k0_h8)

/-- Block 0 once group 7's rows are written. -/
def afterGroup7 (k0_h4 : k0_cond4 (grid0.coords t) = 1#1) (k0_h5 : k0_cond5 (grid0.coords t) = 1#1) (k0_h6 : k0_cond6 (grid0.coords t) = 1#1) (k0_h7 : k0_cond7 (grid0.coords t) = 1#1) (k0_h8 : k0_cond8 (grid0.coords t) = 1#1) (k0_h9 : k0_cond9 (grid0.coords t) = 1#1) (k0_h10 : k0_cond10 (grid0.coords t) = 1#1) : S2x10000x132.Idx → Elt F .f32 :=
  (outM.access (Rect.unit (s := S2x10000x132) (k0_off43 (grid0.coords t)) S1x8x2.size (k0_off43_inb (grid0.coords t) k0_h10))).write (Elt F) (afterGroup6 t X arg2 harg2 arg3 harg3 x0 x1 fo k0_h4 k0_h5 k0_h6 k0_h7 k0_h8 k0_h9)
    (k0_pay10 (arg2.view.readAt (Elt F) (Rect.unit (s := S8x2) ![7, 0] S1x2.size inb_S8x2_S1x2_7_0).toLoadRect (harg2.unread x0))) Finset.univ
theorem afterGroup7_part (ht : t.val = 0) (k0_h4 : k0_cond4 (grid0.coords t) = 1#1) (k0_h5 : k0_cond5 (grid0.coords t) = 1#1) (k0_h6 : k0_cond6 (grid0.coords t) = 1#1) (k0_h7 : k0_cond7 (grid0.coords t) = 1#1) (k0_h8 : k0_cond8 (grid0.coords t) = 1#1) (k0_h9 : k0_cond9 (grid0.coords t) = 1#1) (k0_h10 : k0_cond10 (grid0.coords t) = 1#1) : ∀ i ∈ slotSet 132 (slotAt t.val), afterGroup7 t X arg2 harg2 arg3 harg3 x0 x1 fo k0_h4 k0_h5 k0_h6 k0_h7 k0_h8 k0_h9 k0_h10 i = part 7 X x0 x1 (blockAt t.val) i :=
  stored_group X x0 x1 _ 6 7 rfl (slotAt t.val) (blockAt t.val) (off43_eq t ht) _ _ (fun j k => (row_at _ _ _ _ j k).trans (load_row2 harg2 x0 7 _ k)) (afterGroup6_part t X arg2 harg2 arg3 harg3 x0 x1 fo ht k0_h4 k0_h5 k0_h6 k0_h7 k0_h8 k0_h9)

/-- Block 0's slot holds its block of the result. -/
theorem afterGroups_eq (ht : t.val = 0) (k0_h4 : k0_cond4 (grid0.coords t) = 1#1) (k0_h5 : k0_cond5 (grid0.coords t) = 1#1) (k0_h6 : k0_cond6 (grid0.coords t) = 1#1) (k0_h7 : k0_cond7 (grid0.coords t) = 1#1) (k0_h8 : k0_cond8 (grid0.coords t) = 1#1) (k0_h9 : k0_cond9 (grid0.coords t) = 1#1) (k0_h10 : k0_cond10 (grid0.coords t) = 1#1) : ∀ i ∈ slotSet 132 (slotAt t.val), afterGroup7 t X arg2 harg2 arg3 harg3 x0 x1 fo k0_h4 k0_h5 k0_h6 k0_h7 k0_h8 k0_h9 k0_h10 i = outOf (resOf X x0 x1) (blockAt t.val) i := by
  intro i hi
  rw [afterGroup7_part t X arg2 harg2 arg3 harg3 x0 x1 fo ht k0_h4 k0_h5 k0_h6 k0_h7 k0_h8 k0_h9 k0_h10 i hi, part_seven_eq X x0 x1 _ (by rw [blockAt_val]; omega)]
end

end Cert.KernelIdeal.Own

end
-- ==== Proof.KernelIdeal.RunA.lean ====
/- The body at the first grid point: it also starts the copies of block 0 and writes the groups. -/
module

public import proofs.«01_k».proof.Proof.KernelIdeal.Spec

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (X : BufOf (F := F) c xM) (O G : BufOf (F := F) c resM)

set_option maxHeartbeats 8000000 in
/-- The body at the first grid point: it also starts the copies of block 0 and writes the groups. -/
theorem runA (t : Fin grid0.N) (arg2 : Memref sig .tc .vmem S8x2 .f32) (harg2 : arg2.IsWhole) (arg3 : Memref sig .tc .vmem S2x2 .f32) (harg3 : arg3.IsWhole)
    (x0 : Vec F S8x2 .f32) (x1 : Vec F S2x2 .f32) (hG : G = resOf X x0 x1) (ht : t.val = 0) (W : Waits sig Unit) (K : PUnit → sProp 𝕄) :
    iprop(owns (c : Thread nD τ) arg2 fullShare x0 ∗ owns (c : Thread nD τ) arg3 fullShare x1
        ∗ inCells c (slotAt t.val) ∗ inFreeSlot c X (slotAt t.val) () ∗ inCells c (slotAt (t.val + 1)) ∗ inFreeSlot c X (slotAt (t.val + 1)) () ∗ pieces c (blockAt t.val) O ∗ outFree (F := F) c (slotAt t.val) ∗ owes (c : Thread nD τ) 0 W
        ∗ (iprop(owns (c : Thread nD τ) arg2 fullShare x0 ∗ owns (c : Thread nD τ) arg3 fullShare x1
            ∗ inFlights c X (slotAt (t.val + 1)) (blockAt (t.val + 1)) () ∗ inCells c (slotAt t.val) ∗ inFreeSlot c X (slotAt t.val) () ∗ outFlights c O G (slotAt t.val) (blockAt t.val) ∗ (∃ W', owes (c : Thread nD τ) 0 W')) -∗ K ⟨⟩))
      ⊢ wp frame (wpE (defs₀ (F := F)) Variants.none c none) Set.univ (cc0__encode_kernel (grid0.coords t) (Memref.whole main_arg0) (Memref.isWhole_whole _) arg2 harg2 arg3 harg3 (Memref.whole main_v0) (Memref.isWhole_whole _) inM (Memref.isWhole_whole _) outM (Memref.isWhole_whole _) cc0_scratch2 cc0_scratch3) K := by
  have c1 : condBoot (grid0.coords t) := (condBoot_iff t).2 ht
  haveI : Fact (condBoot (grid0.coords t)) := ⟨c1⟩
  have c2 : k0_cond2 (grid0.coords t) = 1#1 := (cond2_iff t).2 (by omega)
  have c3 : ¬k0_cond3 (grid0.coords t) = 1#1 := fun h => by have := (cond3_iff t).1 h; omega
  have c4 : k0_cond4 (grid0.coords t) = 1#1 := (cond4_iff t).2 ht
  have c5 : k0_cond5 (grid0.coords t) = 1#1 := (cond5_iff t).2 ht
  have c6 : k0_cond6 (grid0.coords t) = 1#1 := (cond6_iff t).2 ht
  have c7 : k0_cond7 (grid0.coords t) = 1#1 := (cond7_iff t).2 ht
  have c8 : k0_cond8 (grid0.coords t) = 1#1 := (cond8_iff t).2 ht
  have c9 : k0_cond9 (grid0.coords t) = 1#1 := (cond9_iff t).2 ht
  have c10 : k0_cond10 (grid0.coords t) = 1#1 := (cond10_iff t).2 ht
  have c11 : ¬k0_cond11 (grid0.coords t) = 1#1 := fun h => by have := (cond11_iff t).1 h; omega
  have hslot : ∀ fo : S2x10000x132.Idx → Elt F .f32, ∀ i ∈ slotSet 132 (slotAt t.val), afterGroup7 t X arg2 harg2 arg3 harg3 x0 x1 fo c4 c5 c6 c7 c8 c9 c10 i = outOf G (blockAt t.val) i := fun fo => by
    rw [hG]; exact afterGroups_eq t X arg2 harg2 arg3 harg3 x0 x1 fo ht c4 c5 c6 c7 c8 c9 c10
  rw [cc0__encode_kernel_eq_skeleton]; unfold cc0__encode_kernel_skel
  simp -proj only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨I0, I1, I2, I3, I4⟩, ⟨⟨⟨%g0, V0⟩, Wg0⟩, ⟨⟨%g1, V1⟩, Wg1⟩, ⟨⟨%g2, V2⟩, Wg2⟩, ⟨⟨%g3, V3⟩, Wg3⟩, ⟨⟨%g4, V4⟩, Wg4⟩⟩, ⟨C0, C1, C2, C3, C4⟩, ⟨⟨⟨%e0, S0⟩, Wh0⟩, ⟨⟨%e1, S1⟩, Wh1⟩, ⟨⟨%e2, S2⟩, Wh2⟩, ⟨⟨%e3, S3⟩, Wh3⟩, ⟨⟨%e4, S4⟩, Wh4⟩⟩, ⟨P0, P1, P2, P3, P4⟩, ⟨⟨Fo0, ⟨%o0, Q0⟩⟩, ⟨Fo1, ⟨%o1, Q1⟩⟩, ⟨Fo2, ⟨%o2, Q2⟩⟩, ⟨Fo3, ⟨%o3, Q3⟩⟩, ⟨Fo4, ⟨%o4, Q4⟩⟩⟩, HW, Hk⟩
  ihave Hg0 := (whole_split c X (slotAt t.val) (blockAt t.val) 0).1 $$ Wg0
  icases Hg0 with ⟨Sg0, R0⟩
  ihave Hs0 := (whole_split c X (slotAt (t.val + 1)) (blockAt (t.val + 1)) 0).1 $$ Wh0
  icases Hs0 with ⟨Sr0, Re0⟩
  ihave Hg1 := (whole_split c X (slotAt t.val) (blockAt t.val) 1).1 $$ Wg1
  icases Hg1 with ⟨Sg1, R1⟩
  ihave Hs1 := (whole_split c X (slotAt (t.val + 1)) (blockAt (t.val + 1)) 1).1 $$ Wh1
  icases Hs1 with ⟨Sr1, Re1⟩
  ihave Hg2 := (whole_split c X (slotAt t.val) (blockAt t.val) 2).1 $$ Wg2
  icases Hg2 with ⟨Sg2, R2⟩
  ihave Hs2 := (whole_split c X (slotAt (t.val + 1)) (blockAt (t.val + 1)) 2).1 $$ Wh2
  icases Hs2 with ⟨Sr2, Re2⟩
  ihave Hg3 := (whole_split c X (slotAt t.val) (blockAt t.val) 3).1 $$ Wg3
  icases Hg3 with ⟨Sg3, R3⟩
  ihave Hs3 := (whole_split c X (slotAt (t.val + 1)) (blockAt (t.val + 1)) 3).1 $$ Wh3
  icases Hs3 with ⟨Sr3, Re3⟩
  ihave Hg4 := (whole_split c X (slotAt t.val) (blockAt t.val) 4).1 $$ Wg4
  icases Hg4 with ⟨Sg4, R4⟩
  ihave Hs4 := (whole_split c X (slotAt (t.val + 1)) (blockAt (t.val + 1)) 4).1 $$ Wh4
  icases Hs4 with ⟨Sr4, Re4⟩
  obtain rfl := harg2.eq_unread hf0; obtain rfl := harg3.eq_unread hf1
  sl_exec (disch := first | sl_exact c1 | sl_exact c2 | sl_exact c3 | sl_exact c4 | sl_exact c5 | sl_exact c6 | sl_exact c7 | sl_exact c8 | sl_exact c9 | sl_exact c10 | sl_exact c11)
  ihave HI := (in_join c X (slotAt t.val) (blockAt t.val) g0 g1 g2 g3 g4) $$ [V0 V1 V2 V3 V4]
  · isplitl [V0]
    · iexact V0
    isplitl [V1]
    · iexact V1
    isplitl [V2]
    · iexact V2
    isplitl [V3]
    · iexact V3
    iexact V4
  ihave HO := (out_join c (slotAt t.val) (outOf G (blockAt t.val))) $$ [Q0 Q1 Q2 Q3 Q4]
  · isplitl [Q0]
    · iexists _; iexact Q0
    isplitl [Q1]
    · iexists _; iexact Q1
    isplitl [Q2]
    · iexists _; iexact Q2
    isplitl [Q3]
    · iexists _; iexact Q3
    iexists _; iexact Q4
  icases HO with ⟨%fo, HO⟩
  sl_exec (disch := first | sl_exact c1 | sl_exact c2 | sl_exact c3 | sl_exact c4 | sl_exact c5 | sl_exact c6 | sl_exact c7 | sl_exact c8 | sl_exact c9 | sl_exact c10 | sl_exact c11)
  ihave HT := (out_split c G (slotAt t.val) (blockAt t.val) (afterGroup7 t X arg2 harg2 arg3 harg3 x0 x1 fo c4 c5 c6 c7 c8 c9 c10) (hslot fo)) $$ [HO]
  · iexact HO
  icases HT with ⟨T0, T1, T2, T3, T4⟩
  ihave HZ := (in_split c (slotAt t.val) (inOf X (blockAt t.val))) $$ HI
  icases HZ with ⟨Z0, Z1, Z2, Z3, Z4⟩
  sl_exec (disch := first | sl_exact c1 | sl_exact c2 | sl_exact c3 | sl_exact c4 | sl_exact c5 | sl_exact c6 | sl_exact c7 | sl_exact c8 | sl_exact c9 | sl_exact c10 | sl_exact c11)
  sl_step
  iapply Hk
  isplitl [H0]
  · iexists _; isplitr
    · ipureintro; exact harg2.read_unread _
    iexact H0
  isplitl [H1]
  · iexists _; isplitr
    · ipureintro; exact harg3.read_unread _
    iexact H1
  isplitl [C0 Re0 C1 Re1 C2 Re2 C3 Re3 C4 Re4]
  · isplitl [C0 Re0]
    · isplitl [C0]
      · iexists _; iexact C0
      iexact Re0
    isplitl [C1 Re1]
    · isplitl [C1]
      · iexists _; iexact C1
      iexact Re1
    isplitl [C2 Re2]
    · isplitl [C2]
      · iexists _; iexact C2
      iexact Re2
    isplitl [C3 Re3]
    · isplitl [C3]
      · iexists _; iexact C3
      iexact Re3
    isplitl [C4]
    · iexists _; iexact C4
    iexact Re4
  isplitl [I0 I1 I2 I3 I4]
  · isplitl [I0]
    · iexact I0
    isplitl [I1]
    · iexact I1
    isplitl [I2]
    · iexact I2
    isplitl [I3]
    · iexact I3
    iexact I4
  isplitl [Z0 Sg0 R0 Z1 Sg1 R1 Z2 Sg2 R2 Z3 Sg3 R3 Z4 Sg4 R4]
  · isplitl [Z0 Sg0 R0]
    · isplitl [Z0]
      · iexact Z0
      iapply (whole_split c X (slotAt t.val) (blockAt t.val) 0).2
      isplitl [Sg0]
      · iexact Sg0
      iexact R0
    isplitl [Z1 Sg1 R1]
    · isplitl [Z1]
      · iexact Z1
      iapply (whole_split c X (slotAt t.val) (blockAt t.val) 1).2
      isplitl [Sg1]
      · iexact Sg1
      iexact R1
    isplitl [Z2 Sg2 R2]
    · isplitl [Z2]
      · iexact Z2
      iapply (whole_split c X (slotAt t.val) (blockAt t.val) 2).2
      isplitl [Sg2]
      · iexact Sg2
      iexact R2
    isplitl [Z3 Sg3 R3]
    · isplitl [Z3]
      · iexact Z3
      iapply (whole_split c X (slotAt t.val) (blockAt t.val) 3).2
      isplitl [Sg3]
      · iexact Sg3
      iexact R3
    isplitl [Z4]
    · iexact Z4
    iapply (whole_split c X (slotAt t.val) (blockAt t.val) 4).2
    isplitl [Sg4]
    · iexact Sg4
    iexact R4
  isplitl [Fo0 Fo1 Fo2 Fo3 Fo4]
  · isplitl [Fo0]
    · iexact Fo0
    isplitl [Fo1]
    · iexact Fo1
    isplitl [Fo2]
    · iexact Fo2
    isplitl [Fo3]
    · iexact Fo3
    iexact Fo4
  iexists _; iexact HW

end Cert.KernelIdeal.Own

end
-- ==== Proof.KernelIdeal.RunB.lean ====
/- The body at the second grid point. -/
module

public import proofs.«01_k».proof.Proof.KernelIdeal.Spec

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (X : BufOf (F := F) c xM) (O G : BufOf (F := F) c resM)

set_option maxHeartbeats 8000000 in
/-- The body at the second grid point. -/
theorem runB (t : Fin grid0.N) (arg2 : Memref sig .tc .vmem S8x2 .f32) (harg2 : arg2.IsWhole) (arg3 : Memref sig .tc .vmem S2x2 .f32) (harg3 : arg3.IsWhole)
    (x0 : Vec F S8x2 .f32) (x1 : Vec F S2x2 .f32) (hG : G = resOf X x0 x1) (ht : t.val = 1) (W : Waits sig Unit) (K : PUnit → sProp 𝕄) :
    iprop(owns (c : Thread nD τ) arg2 fullShare x0 ∗ owns (c : Thread nD τ) arg3 fullShare x1
        ∗ inFlights c X (slotAt t.val) (blockAt t.val) () ∗ inCells c (slotAt (t.val + 1)) ∗ inFreeSlot c X (slotAt (t.val + 1)) () ∗ pieces c (blockAt t.val) O ∗ outFree (F := F) c (slotAt t.val) ∗ owes (c : Thread nD τ) 0 W
        ∗ (iprop(owns (c : Thread nD τ) arg2 fullShare x0 ∗ owns (c : Thread nD τ) arg3 fullShare x1
            ∗ inFlights c X (slotAt (t.val + 1)) (blockAt (t.val + 1)) () ∗ inCells c (slotAt t.val) ∗ inFreeSlot c X (slotAt t.val) () ∗ outFlights c O G (slotAt t.val) (blockAt t.val) ∗ (∃ W', owes (c : Thread nD τ) 0 W')) -∗ K ⟨⟩))
      ⊢ wp frame (wpE (defs₀ (F := F)) Variants.none c none) Set.univ (cc0__encode_kernel (grid0.coords t) (Memref.whole main_arg0) (Memref.isWhole_whole _) arg2 harg2 arg3 harg3 (Memref.whole main_v0) (Memref.isWhole_whole _) inM (Memref.isWhole_whole _) outM (Memref.isWhole_whole _) cc0_scratch2 cc0_scratch3) K := by
  have c1 : ¬condBoot (grid0.coords t) := fun h => by have := (condBoot_iff t).1 h; omega
  have c2 : k0_cond2 (grid0.coords t) = 1#1 := (cond2_iff t).2 (by omega)
  have c3 : ¬k0_cond3 (grid0.coords t) = 1#1 := fun h => by have := (cond3_iff t).1 h; omega
  have c4 : ¬k0_cond4 (grid0.coords t) = 1#1 := fun h => by have := (cond4_iff t).1 h; omega
  have c5 : ¬k0_cond5 (grid0.coords t) = 1#1 := fun h => by have := (cond5_iff t).1 h; omega
  have c6 : ¬k0_cond6 (grid0.coords t) = 1#1 := fun h => by have := (cond6_iff t).1 h; omega
  have c7 : ¬k0_cond7 (grid0.coords t) = 1#1 := fun h => by have := (cond7_iff t).1 h; omega
  have c8 : ¬k0_cond8 (grid0.coords t) = 1#1 := fun h => by have := (cond8_iff t).1 h; omega
  have c9 : ¬k0_cond9 (grid0.coords t) = 1#1 := fun h => by have := (cond9_iff t).1 h; omega
  have c10 : ¬k0_cond10 (grid0.coords t) = 1#1 := fun h => by have := (cond10_iff t).1 h; omega
  have c11 : ¬k0_cond11 (grid0.coords t) = 1#1 := fun h => by have := (cond11_iff t).1 h; omega
  have hslot : ∀ fo : S2x10000x132.Idx → Elt F .f32, ∀ i ∈ slotSet 132 (slotAt t.val), afterStores t X arg2 harg2 arg3 harg3 x0 x1 fo i = outOf G (blockAt t.val) i := fun fo => by
    rw [hG]; exact afterStores_eq t X arg2 harg2 arg3 harg3 x0 x1 fo (by omega)
  rw [cc0__encode_kernel_eq_skeleton]; unfold cc0__encode_kernel_skel
  simp -proj only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨⟨⟨%g0, I0⟩, R0⟩, ⟨⟨%g1, I1⟩, R1⟩, ⟨⟨%g2, I2⟩, R2⟩, ⟨⟨%g3, I3⟩, R3⟩, ⟨⟨%g4, I4⟩, R4⟩⟩, ⟨C0, C1, C2, C3, C4⟩, ⟨⟨⟨%e0, S0⟩, Wh0⟩, ⟨⟨%e1, S1⟩, Wh1⟩, ⟨⟨%e2, S2⟩, Wh2⟩, ⟨⟨%e3, S3⟩, Wh3⟩, ⟨⟨%e4, S4⟩, Wh4⟩⟩, ⟨P0, P1, P2, P3, P4⟩, ⟨⟨Fo0, ⟨%o0, Q0⟩⟩, ⟨Fo1, ⟨%o1, Q1⟩⟩, ⟨Fo2, ⟨%o2, Q2⟩⟩, ⟨Fo3, ⟨%o3, Q3⟩⟩, ⟨Fo4, ⟨%o4, Q4⟩⟩⟩, HW, Hk⟩
  ihave Hs0 := (whole_split c X (slotAt (t.val + 1)) (blockAt (t.val + 1)) 0).1 $$ Wh0
  icases Hs0 with ⟨Sr0, Re0⟩
  ihave Hs1 := (whole_split c X (slotAt (t.val + 1)) (blockAt (t.val + 1)) 1).1 $$ Wh1
  icases Hs1 with ⟨Sr1, Re1⟩
  ihave Hs2 := (whole_split c X (slotAt (t.val + 1)) (blockAt (t.val + 1)) 2).1 $$ Wh2
  icases Hs2 with ⟨Sr2, Re2⟩
  ihave Hs3 := (whole_split c X (slotAt (t.val + 1)) (blockAt (t.val + 1)) 3).1 $$ Wh3
  icases Hs3 with ⟨Sr3, Re3⟩
  ihave Hs4 := (whole_split c X (slotAt (t.val + 1)) (blockAt (t.val + 1)) 4).1 $$ Wh4
  icases Hs4 with ⟨Sr4, Re4⟩
  obtain rfl := harg2.eq_unread hf0; obtain rfl := harg3.eq_unread hf1
  sl_exec (disch := first | sl_exact c1 | sl_exact c2 | sl_exact c3 | sl_exact c4 | sl_exact c5 | sl_exact c6 | sl_exact c7 | sl_exact c8 | sl_exact c9 | sl_exact c10 | sl_exact c11)
  ihave HI := (in_join c X (slotAt t.val) (blockAt t.val) g0 g1 g2 g3 g4) $$ [I0_dst I1_dst I2_dst I3_dst I4_dst]
  · isplitl [I0_dst]
    · iexact I0_dst
    isplitl [I1_dst]
    · iexact I1_dst
    isplitl [I2_dst]
    · iexact I2_dst
    isplitl [I3_dst]
    · iexact I3_dst
    iexact I4_dst
  ihave HO := (out_join c (slotAt t.val) (outOf G (blockAt t.val))) $$ [Q0 Q1 Q2 Q3 Q4]
  · isplitl [Q0]
    · iexists _; iexact Q0
    isplitl [Q1]
    · iexists _; iexact Q1
    isplitl [Q2]
    · iexists _; iexact Q2
    isplitl [Q3]
    · iexists _; iexact Q3
    iexists _; iexact Q4
  icases HO with ⟨%fo, HO⟩
  sl_exec (disch := first | sl_exact c1 | sl_exact c2 | sl_exact c3 | sl_exact c4 | sl_exact c5 | sl_exact c6 | sl_exact c7 | sl_exact c8 | sl_exact c9 | sl_exact c10 | sl_exact c11)
  ihave HT := (out_split c G (slotAt t.val) (blockAt t.val) (afterStores t X arg2 harg2 arg3 harg3 x0 x1 fo) (hslot fo)) $$ [HO]
  · iexact HO
  icases HT with ⟨T0, T1, T2, T3, T4⟩
  ihave HZ := (in_split c (slotAt t.val) (inOf X (blockAt t.val))) $$ HI
  icases HZ with ⟨Z0, Z1, Z2, Z3, Z4⟩
  sl_exec (disch := first | sl_exact c1 | sl_exact c2 | sl_exact c3 | sl_exact c4 | sl_exact c5 | sl_exact c6 | sl_exact c7 | sl_exact c8 | sl_exact c9 | sl_exact c10 | sl_exact c11)
  sl_step
  iapply Hk
  isplitl [H0]
  · iexists _; isplitr
    · ipureintro; exact harg2.read_unread _
    iexact H0
  isplitl [H1]
  · iexists _; isplitr
    · ipureintro; exact harg3.read_unread _
    iexact H1
  isplitl [C0 Re0 C1 Re1 C2 Re2 C3 Re3 C4 Re4]
  · isplitl [C0 Re0]
    · isplitl [C0]
      · iexists _; iexact C0
      iexact Re0
    isplitl [C1 Re1]
    · isplitl [C1]
      · iexists _; iexact C1
      iexact Re1
    isplitl [C2 Re2]
    · isplitl [C2]
      · iexists _; iexact C2
      iexact Re2
    isplitl [C3 Re3]
    · isplitl [C3]
      · iexists _; iexact C3
      iexact Re3
    isplitl [C4]
    · iexists _; iexact C4
    iexact Re4
  isplitl [I0 I1 I2 I3 I4]
  · isplitl [I0]
    · iexact I0
    isplitl [I1]
    · iexact I1
    isplitl [I2]
    · iexact I2
    isplitl [I3]
    · iexact I3
    iexact I4
  isplitl [Z0 I0_src R0 Z1 I1_src R1 Z2 I2_src R2 Z3 I3_src R3 Z4 I4_src R4]
  · isplitl [Z0 I0_src R0]
    · isplitl [Z0]
      · iexact Z0
      iapply (whole_split c X (slotAt t.val) (blockAt t.val) 0).2
      isplitl [I0_src]
      · iexact I0_src
      iexact R0
    isplitl [Z1 I1_src R1]
    · isplitl [Z1]
      · iexact Z1
      iapply (whole_split c X (slotAt t.val) (blockAt t.val) 1).2
      isplitl [I1_src]
      · iexact I1_src
      iexact R1
    isplitl [Z2 I2_src R2]
    · isplitl [Z2]
      · iexact Z2
      iapply (whole_split c X (slotAt t.val) (blockAt t.val) 2).2
      isplitl [I2_src]
      · iexact I2_src
      iexact R2
    isplitl [Z3 I3_src R3]
    · isplitl [Z3]
      · iexact Z3
      iapply (whole_split c X (slotAt t.val) (blockAt t.val) 3).2
      isplitl [I3_src]
      · iexact I3_src
      iexact R3
    isplitl [Z4]
    · iexact Z4
    iapply (whole_split c X (slotAt t.val) (blockAt t.val) 4).2
    isplitl [I4_src]
    · iexact I4_src
    iexact R4
  isplitl [Fo0 Fo1 Fo2 Fo3 Fo4]
  · isplitl [Fo0]
    · iexact Fo0
    isplitl [Fo1]
    · iexact Fo1
    isplitl [Fo2]
    · iexact Fo2
    isplitl [Fo3]
    · iexact Fo3
    iexact Fo4
  iexists _; iexact HW

end Cert.KernelIdeal.Own

end
-- ==== Proof.KernelIdeal.RunC.lean ====
/- The body at a middle grid point. -/
module

public import proofs.«01_k».proof.Proof.KernelIdeal.Spec

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (X : BufOf (F := F) c xM) (O G : BufOf (F := F) c resM)

set_option maxHeartbeats 8000000 in
/-- The body at a middle grid point. -/
theorem runC (t : Fin grid0.N) (arg2 : Memref sig .tc .vmem S8x2 .f32) (harg2 : arg2.IsWhole) (arg3 : Memref sig .tc .vmem S2x2 .f32) (harg3 : arg3.IsWhole)
    (x0 : Vec F S8x2 .f32) (x1 : Vec F S2x2 .f32) (hG : G = resOf X x0 x1) (h2 : 2 ≤ t.val) (h9 : t.val < 9) (W : Waits sig Unit) (K : PUnit → sProp 𝕄) :
    iprop(owns (c : Thread nD τ) arg2 fullShare x0 ∗ owns (c : Thread nD τ) arg3 fullShare x1
        ∗ inFlights c X (slotAt t.val) (blockAt t.val) () ∗ inCells c (slotAt (t.val + 1)) ∗ inFreeSlot c X (slotAt (t.val + 1)) () ∗ pieces c (blockAt t.val) O ∗ outFlights c O G (slotAt t.val) (blockAt (t.val - 2)) ∗ owes (c : Thread nD τ) 0 W
        ∗ (iprop(owns (c : Thread nD τ) arg2 fullShare x0 ∗ owns (c : Thread nD τ) arg3 fullShare x1
            ∗ inFlights c X (slotAt (t.val + 1)) (blockAt (t.val + 1)) () ∗ inCells c (slotAt t.val) ∗ inFreeSlot c X (slotAt t.val) () ∗ pieces c (blockAt (t.val - 2)) G ∗ outFlights c O G (slotAt t.val) (blockAt t.val) ∗ (∃ W', owes (c : Thread nD τ) 0 W')) -∗ K ⟨⟩))
      ⊢ wp frame (wpE (defs₀ (F := F)) Variants.none c none) Set.univ (cc0__encode_kernel (grid0.coords t) (Memref.whole main_arg0) (Memref.isWhole_whole _) arg2 harg2 arg3 harg3 (Memref.whole main_v0) (Memref.isWhole_whole _) inM (Memref.isWhole_whole _) outM (Memref.isWhole_whole _) cc0_scratch2 cc0_scratch3) K := by
  have c1 : ¬condBoot (grid0.coords t) := fun h => by have := (condBoot_iff t).1 h; omega
  have c2 : k0_cond2 (grid0.coords t) = 1#1 := (cond2_iff t).2 (by omega)
  have c3 : k0_cond3 (grid0.coords t) = 1#1 := (cond3_iff t).2 (by omega)
  have c4 : ¬k0_cond4 (grid0.coords t) = 1#1 := fun h => by have := (cond4_iff t).1 h; omega
  have c5 : ¬k0_cond5 (grid0.coords t) = 1#1 := fun h => by have := (cond5_iff t).1 h; omega
  have c6 : ¬k0_cond6 (grid0.coords t) = 1#1 := fun h => by have := (cond6_iff t).1 h; omega
  have c7 : ¬k0_cond7 (grid0.coords t) = 1#1 := fun h => by have := (cond7_iff t).1 h; omega
  have c8 : ¬k0_cond8 (grid0.coords t) = 1#1 := fun h => by have := (cond8_iff t).1 h; omega
  have c9 : ¬k0_cond9 (grid0.coords t) = 1#1 := fun h => by have := (cond9_iff t).1 h; omega
  have c10 : ¬k0_cond10 (grid0.coords t) = 1#1 := fun h => by have := (cond10_iff t).1 h; omega
  have c11 : ¬k0_cond11 (grid0.coords t) = 1#1 := fun h => by have := (cond11_iff t).1 h; omega
  have hslot : ∀ fo : S2x10000x132.Idx → Elt F .f32, ∀ i ∈ slotSet 132 (slotAt t.val), afterStores t X arg2 harg2 arg3 harg3 x0 x1 fo i = outOf G (blockAt t.val) i := fun fo => by
    rw [hG]; exact afterStores_eq t X arg2 harg2 arg3 harg3 x0 x1 fo (by omega)
  rw [cc0__encode_kernel_eq_skeleton]; unfold cc0__encode_kernel_skel
  simp -proj only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨⟨⟨%g0, I0⟩, R0⟩, ⟨⟨%g1, I1⟩, R1⟩, ⟨⟨%g2, I2⟩, R2⟩, ⟨⟨%g3, I3⟩, R3⟩, ⟨⟨%g4, I4⟩, R4⟩⟩, ⟨C0, C1, C2, C3, C4⟩, ⟨⟨⟨%e0, S0⟩, Wh0⟩, ⟨⟨%e1, S1⟩, Wh1⟩, ⟨⟨%e2, S2⟩, Wh2⟩, ⟨⟨%e3, S3⟩, Wh3⟩, ⟨⟨%e4, S4⟩, Wh4⟩⟩, ⟨P0, P1, P2, P3, P4⟩, ⟨Fo0, Fo1, Fo2, Fo3, Fo4⟩, HW, Hk⟩
  ihave Hs0 := (whole_split c X (slotAt (t.val + 1)) (blockAt (t.val + 1)) 0).1 $$ Wh0
  icases Hs0 with ⟨Sr0, Re0⟩
  ihave Hs1 := (whole_split c X (slotAt (t.val + 1)) (blockAt (t.val + 1)) 1).1 $$ Wh1
  icases Hs1 with ⟨Sr1, Re1⟩
  ihave Hs2 := (whole_split c X (slotAt (t.val + 1)) (blockAt (t.val + 1)) 2).1 $$ Wh2
  icases Hs2 with ⟨Sr2, Re2⟩
  ihave Hs3 := (whole_split c X (slotAt (t.val + 1)) (blockAt (t.val + 1)) 3).1 $$ Wh3
  icases Hs3 with ⟨Sr3, Re3⟩
  ihave Hs4 := (whole_split c X (slotAt (t.val + 1)) (blockAt (t.val + 1)) 4).1 $$ Wh4
  icases Hs4 with ⟨Sr4, Re4⟩
  obtain rfl := harg2.eq_unread hf0; obtain rfl := harg3.eq_unread hf1
  sl_exec (disch := first | sl_exact c1 | sl_exact c2 | sl_exact c3 | sl_exact c4 | sl_exact c5 | sl_exact c6 | sl_exact c7 | sl_exact c8 | sl_exact c9 | sl_exact c10 | sl_exact c11)
  ihave HI := (in_join c X (slotAt t.val) (blockAt t.val) g0 g1 g2 g3 g4) $$ [I0_dst I1_dst I2_dst I3_dst I4_dst]
  · isplitl [I0_dst]
    · iexact I0_dst
    isplitl [I1_dst]
    · iexact I1_dst
    isplitl [I2_dst]
    · iexact I2_dst
    isplitl [I3_dst]
    · iexact I3_dst
    iexact I4_dst
  ihave HO := (out_join c (slotAt t.val) (outOf G (blockAt t.val))) $$ [Fo0_src Fo1_src Fo2_src Fo3_src Fo4_src]
  · isplitl [Fo0_src]
    · iexists _; iexact Fo0_src
    isplitl [Fo1_src]
    · iexists _; iexact Fo1_src
    isplitl [Fo2_src]
    · iexists _; iexact Fo2_src
    isplitl [Fo3_src]
    · iexists _; iexact Fo3_src
    iexists _; iexact Fo4_src
  icases HO with ⟨%fo, HO⟩
  sl_exec (disch := first | sl_exact c1 | sl_exact c2 | sl_exact c3 | sl_exact c4 | sl_exact c5 | sl_exact c6 | sl_exact c7 | sl_exact c8 | sl_exact c9 | sl_exact c10 | sl_exact c11)
  ihave HT := (out_split c G (slotAt t.val) (blockAt t.val) (afterStores t X arg2 harg2 arg3 harg3 x0 x1 fo) (hslot fo)) $$ [HO]
  · iexact HO
  icases HT with ⟨T0, T1, T2, T3, T4⟩
  ihave HZ := (in_split c (slotAt t.val) (inOf X (blockAt t.val))) $$ HI
  icases HZ with ⟨Z0, Z1, Z2, Z3, Z4⟩
  sl_exec (disch := first | sl_exact c1 | sl_exact c2 | sl_exact c3 | sl_exact c4 | sl_exact c5 | sl_exact c6 | sl_exact c7 | sl_exact c8 | sl_exact c9 | sl_exact c10 | sl_exact c11)
  sl_step
  iapply Hk
  isplitl [H0]
  · iexists _; isplitr
    · ipureintro; exact harg2.read_unread _
    iexact H0
  isplitl [H1]
  · iexists _; isplitr
    · ipureintro; exact harg3.read_unread _
    iexact H1
  isplitl [C0 Re0 C1 Re1 C2 Re2 C3 Re3 C4 Re4]
  · isplitl [C0 Re0]
    · isplitl [C0]
      · iexists _; iexact C0
      iexact Re0
    isplitl [C1 Re1]
    · isplitl [C1]
      · iexists _; iexact C1
      iexact Re1
    isplitl [C2 Re2]
    · isplitl [C2]
      · iexists _; iexact C2
      iexact Re2
    isplitl [C3 Re3]
    · isplitl [C3]
      · iexists _; iexact C3
      iexact Re3
    isplitl [C4]
    · iexists _; iexact C4
    iexact Re4
  isplitl [I0 I1 I2 I3 I4]
  · isplitl [I0]
    · iexact I0
    isplitl [I1]
    · iexact I1
    isplitl [I2]
    · iexact I2
    isplitl [I3]
    · iexact I3
    iexact I4
  isplitl [Z0 I0_src R0 Z1 I1_src R1 Z2 I2_src R2 Z3 I3_src R3 Z4 I4_src R4]
  · isplitl [Z0 I0_src R0]
    · isplitl [Z0]
      · iexact Z0
      iapply (whole_split c X (slotAt t.val) (blockAt t.val) 0).2
      isplitl [I0_src]
      · iexact I0_src
      iexact R0
    isplitl [Z1 I1_src R1]
    · isplitl [Z1]
      · iexact Z1
      iapply (whole_split c X (slotAt t.val) (blockAt t.val) 1).2
      isplitl [I1_src]
      · iexact I1_src
      iexact R1
    isplitl [Z2 I2_src R2]
    · isplitl [Z2]
      · iexact Z2
      iapply (whole_split c X (slotAt t.val) (blockAt t.val) 2).2
      isplitl [I2_src]
      · iexact I2_src
      iexact R2
    isplitl [Z3 I3_src R3]
    · isplitl [Z3]
      · iexact Z3
      iapply (whole_split c X (slotAt t.val) (blockAt t.val) 3).2
      isplitl [I3_src]
      · iexact I3_src
      iexact R3
    isplitl [Z4]
    · iexact Z4
    iapply (whole_split c X (slotAt t.val) (blockAt t.val) 4).2
    isplitl [I4_src]
    · iexact I4_src
    iexact R4
  isplitl [Fo0_dst Fo1_dst Fo2_dst Fo3_dst Fo4_dst]
  · isplitl [Fo0_dst]
    · iapply (piece_done c O G (slotAt t.val) (blockAt (t.val - 2)) 0); iexact Fo0_dst
    isplitl [Fo1_dst]
    · iapply (piece_done c O G (slotAt t.val) (blockAt (t.val - 2)) 1); iexact Fo1_dst
    isplitl [Fo2_dst]
    · iapply (piece_done c O G (slotAt t.val) (blockAt (t.val - 2)) 2); iexact Fo2_dst
    isplitl [Fo3_dst]
    · iapply (piece_done c O G (slotAt t.val) (blockAt (t.val - 2)) 3); iexact Fo3_dst
    iapply (piece_done c O G (slotAt t.val) (blockAt (t.val - 2)) 4); iexact Fo4_dst
  isplitl [Fo0 Fo1 Fo2 Fo3 Fo4]
  · isplitl [Fo0]
    · iexact Fo0
    isplitl [Fo1]
    · iexact Fo1
    isplitl [Fo2]
    · iexact Fo2
    isplitl [Fo3]
    · iexact Fo3
    iexact Fo4
  iexists _; iexact HW

end Cert.KernelIdeal.Own

end
-- ==== Proof.KernelIdeal.RunD.lean ====
/- The body at the last grid point: it also waits for the last two blocks. -/
module

public import proofs.«01_k».proof.Proof.KernelIdeal.Spec

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (X : BufOf (F := F) c xM) (O G : BufOf (F := F) c resM)

set_option maxHeartbeats 8000000 in
/-- The body at the last grid point: it also waits for the last two blocks. -/
theorem runD (t : Fin grid0.N) (arg2 : Memref sig .tc .vmem S8x2 .f32) (harg2 : arg2.IsWhole) (arg3 : Memref sig .tc .vmem S2x2 .f32) (harg3 : arg3.IsWhole)
    (x0 : Vec F S8x2 .f32) (x1 : Vec F S2x2 .f32) (hG : G = resOf X x0 x1) (ht : t.val = 9) (W : Waits sig Unit) (K : PUnit → sProp 𝕄) :
    iprop(owns (c : Thread nD τ) arg2 fullShare x0 ∗ owns (c : Thread nD τ) arg3 fullShare x1
        ∗ inFlights c X (slotAt t.val) (blockAt t.val) () ∗ pieces c (blockAt t.val) O ∗ outFlights c O G (slotAt t.val) (blockAt (t.val - 2)) ∗ outFlights c O G (slotAt (t.val + 1)) (blockAt (t.val - 1)) ∗ owes (c : Thread nD τ) 0 W
        ∗ (iprop(owns (c : Thread nD τ) arg2 fullShare x0 ∗ owns (c : Thread nD τ) arg3 fullShare x1
            ∗ inCells c (slotAt t.val) ∗ inFreeSlot c X (slotAt t.val) () ∗ pieces c (blockAt (t.val - 2)) G ∗ pieces c (blockAt (t.val - 1)) G ∗ pieces c (blockAt t.val) G ∗ outFree (F := F) c (slotAt t.val) ∗ outFree (F := F) c (slotAt (t.val + 1)) ∗ (∃ W', owes (c : Thread nD τ) 0 W')) -∗ K ⟨⟩))
      ⊢ wp frame (wpE (defs₀ (F := F)) Variants.none c none) Set.univ (cc0__encode_kernel (grid0.coords t) (Memref.whole main_arg0) (Memref.isWhole_whole _) arg2 harg2 arg3 harg3 (Memref.whole main_v0) (Memref.isWhole_whole _) inM (Memref.isWhole_whole _) outM (Memref.isWhole_whole _) cc0_scratch2 cc0_scratch3) K := by
  have c1 : ¬condBoot (grid0.coords t) := fun h => by have := (condBoot_iff t).1 h; omega
  have c2 : ¬k0_cond2 (grid0.coords t) = 1#1 := fun h => by have := (cond2_iff t).1 h; omega
  have c3 : k0_cond3 (grid0.coords t) = 1#1 := (cond3_iff t).2 (by omega)
  have c4 : ¬k0_cond4 (grid0.coords t) = 1#1 := fun h => by have := (cond4_iff t).1 h; omega
  have c5 : ¬k0_cond5 (grid0.coords t) = 1#1 := fun h => by have := (cond5_iff t).1 h; omega
  have c6 : ¬k0_cond6 (grid0.coords t) = 1#1 := fun h => by have := (cond6_iff t).1 h; omega
  have c7 : ¬k0_cond7 (grid0.coords t) = 1#1 := fun h => by have := (cond7_iff t).1 h; omega
  have c8 : ¬k0_cond8 (grid0.coords t) = 1#1 := fun h => by have := (cond8_iff t).1 h; omega
  have c9 : ¬k0_cond9 (grid0.coords t) = 1#1 := fun h => by have := (cond9_iff t).1 h; omega
  have c10 : ¬k0_cond10 (grid0.coords t) = 1#1 := fun h => by have := (cond10_iff t).1 h; omega
  have c11 : k0_cond11 (grid0.coords t) = 1#1 := (cond11_iff t).2 ht
  have hslot : ∀ fo : S2x10000x132.Idx → Elt F .f32, ∀ i ∈ slotSet 132 (slotAt t.val), afterStores t X arg2 harg2 arg3 harg3 x0 x1 fo i = outOf G (blockAt t.val) i := fun fo => by
    rw [hG]; exact afterStores_eq t X arg2 harg2 arg3 harg3 x0 x1 fo (by omega)
  rw [cc0__encode_kernel_eq_skeleton]; unfold cc0__encode_kernel_skel
  simp -proj only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨⟨⟨%g0, I0⟩, R0⟩, ⟨⟨%g1, I1⟩, R1⟩, ⟨⟨%g2, I2⟩, R2⟩, ⟨⟨%g3, I3⟩, R3⟩, ⟨⟨%g4, I4⟩, R4⟩⟩, ⟨P0, P1, P2, P3, P4⟩, ⟨Fo0, Fo1, Fo2, Fo3, Fo4⟩, ⟨Fl0, Fl1, Fl2, Fl3, Fl4⟩, HW, Hk⟩
  obtain rfl := harg2.eq_unread hf0; obtain rfl := harg3.eq_unread hf1
  sl_exec (disch := first | sl_exact c1 | sl_exact c2 | sl_exact c3 | sl_exact c4 | sl_exact c5 | sl_exact c6 | sl_exact c7 | sl_exact c8 | sl_exact c9 | sl_exact c10 | sl_exact c11)
  ihave HI := (in_join c X (slotAt t.val) (blockAt t.val) g0 g1 g2 g3 g4) $$ [I0_dst I1_dst I2_dst I3_dst I4_dst]
  · isplitl [I0_dst]
    · iexact I0_dst
    isplitl [I1_dst]
    · iexact I1_dst
    isplitl [I2_dst]
    · iexact I2_dst
    isplitl [I3_dst]
    · iexact I3_dst
    iexact I4_dst
  ihave HO := (out_join c (slotAt t.val) (outOf G (blockAt t.val))) $$ [Fo0_src Fo1_src Fo2_src Fo3_src Fo4_src]
  · isplitl [Fo0_src]
    · iexists _; iexact Fo0_src
    isplitl [Fo1_src]
    · iexists _; iexact Fo1_src
    isplitl [Fo2_src]
    · iexists _; iexact Fo2_src
    isplitl [Fo3_src]
    · iexists _; iexact Fo3_src
    iexists _; iexact Fo4_src
  icases HO with ⟨%fo, HO⟩
  irename Fo0_dst => Yd0
  irename Fo1_dst => Yd1
  irename Fo2_dst => Yd2
  irename Fo3_dst => Yd3
  irename Fo4_dst => Yd4
  ihave Y0 := (piece_done c O G (slotAt t.val) (blockAt (t.val - 2)) 0) $$ Yd0
  ihave Y1 := (piece_done c O G (slotAt t.val) (blockAt (t.val - 2)) 1) $$ Yd1
  ihave Y2 := (piece_done c O G (slotAt t.val) (blockAt (t.val - 2)) 2) $$ Yd2
  ihave Y3 := (piece_done c O G (slotAt t.val) (blockAt (t.val - 2)) 3) $$ Yd3
  ihave Y4 := (piece_done c O G (slotAt t.val) (blockAt (t.val - 2)) 4) $$ Yd4
  sl_exec (disch := first | sl_exact c1 | sl_exact c2 | sl_exact c3 | sl_exact c4 | sl_exact c5 | sl_exact c6 | sl_exact c7 | sl_exact c8 | sl_exact c9 | sl_exact c10 | sl_exact c11)
  ihave HT := (out_split c G (slotAt t.val) (blockAt t.val) (afterStores t X arg2 harg2 arg3 harg3 x0 x1 fo) (hslot fo)) $$ [HO]
  · iexact HO
  icases HT with ⟨T0, T1, T2, T3, T4⟩
  ihave HZ := (in_split c (slotAt t.val) (inOf X (blockAt t.val))) $$ HI
  icases HZ with ⟨Z0, Z1, Z2, Z3, Z4⟩
  sl_exec (disch := first | sl_exact c1 | sl_exact c2 | sl_exact c3 | sl_exact c4 | sl_exact c5 | sl_exact c6 | sl_exact c7 | sl_exact c8 | sl_exact c9 | sl_exact c10 | sl_exact c11)
  sl_step
  iapply Hk
  isplitl [H0]
  · iexists _; isplitr
    · ipureintro; exact harg2.read_unread _
    iexact H0
  isplitl [H1]
  · iexists _; isplitr
    · ipureintro; exact harg3.read_unread _
    iexact H1
  isplitl [I0 I1 I2 I3 I4]
  · isplitl [I0]
    · iexact I0
    isplitl [I1]
    · iexact I1
    isplitl [I2]
    · iexact I2
    isplitl [I3]
    · iexact I3
    iexact I4
  isplitl [Z0 I0_src R0 Z1 I1_src R1 Z2 I2_src R2 Z3 I3_src R3 Z4 I4_src R4]
  · isplitl [Z0 I0_src R0]
    · isplitl [Z0]
      · iexact Z0
      iapply (whole_split c X (slotAt t.val) (blockAt t.val) 0).2
      isplitl [I0_src]
      · iexact I0_src
      iexact R0
    isplitl [Z1 I1_src R1]
    · isplitl [Z1]
      · iexact Z1
      iapply (whole_split c X (slotAt t.val) (blockAt t.val) 1).2
      isplitl [I1_src]
      · iexact I1_src
      iexact R1
    isplitl [Z2 I2_src R2]
    · isplitl [Z2]
      · iexact Z2
      iapply (whole_split c X (slotAt t.val) (blockAt t.val) 2).2
      isplitl [I2_src]
      · iexact I2_src
      iexact R2
    isplitl [Z3 I3_src R3]
    · isplitl [Z3]
      · iexact Z3
      iapply (whole_split c X (slotAt t.val) (blockAt t.val) 3).2
      isplitl [I3_src]
      · iexact I3_src
      iexact R3
    isplitl [Z4]
    · iexact Z4
    iapply (whole_split c X (slotAt t.val) (blockAt t.val) 4).2
    isplitl [I4_src]
    · iexact I4_src
    iexact R4
  isplitl [Y0 Y1 Y2 Y3 Y4]
  · isplitl [Y0]
    · iexact Y0
    isplitl [Y1]
    · iexact Y1
    isplitl [Y2]
    · iexact Y2
    isplitl [Y3]
    · iexact Y3
    iexact Y4
  isplitl [Fl0_dst Fl1_dst Fl2_dst Fl3_dst Fl4_dst]
  · isplitl [Fl0_dst]
    · iapply (piece_done c O G (slotAt (t.val + 1)) (blockAt (t.val - 1)) 0); iexact Fl0_dst
    isplitl [Fl1_dst]
    · iapply (piece_done c O G (slotAt (t.val + 1)) (blockAt (t.val - 1)) 1); iexact Fl1_dst
    isplitl [Fl2_dst]
    · iapply (piece_done c O G (slotAt (t.val + 1)) (blockAt (t.val - 1)) 2); iexact Fl2_dst
    isplitl [Fl3_dst]
    · iapply (piece_done c O G (slotAt (t.val + 1)) (blockAt (t.val - 1)) 3); iexact Fl3_dst
    iapply (piece_done c O G (slotAt (t.val + 1)) (blockAt (t.val - 1)) 4); iexact Fl4_dst
  isplitl [P0 P1 P2 P3 P4]
  · isplitl [P0]
    · iapply (piece_done c O G (slotAt t.val) (blockAt t.val) 0); iexact P0
    isplitl [P1]
    · iapply (piece_done c O G (slotAt t.val) (blockAt t.val) 1); iexact P1
    isplitl [P2]
    · iapply (piece_done c O G (slotAt t.val) (blockAt t.val) 2); iexact P2
    isplitl [P3]
    · iapply (piece_done c O G (slotAt t.val) (blockAt t.val) 3); iexact P3
    iapply (piece_done c O G (slotAt t.val) (blockAt t.val) 4); iexact P4
  isplitl [Fo0 T0 Fo1 T1 Fo2 T2 Fo3 T3 Fo4 T4]
  · isplitl [Fo0 T0]
    · isplitl [Fo0]
      · iexact Fo0
      iexists _; iexact T0
    isplitl [Fo1 T1]
    · isplitl [Fo1]
      · iexact Fo1
      iexists _; iexact T1
    isplitl [Fo2 T2]
    · isplitl [Fo2]
      · iexact Fo2
      iexists _; iexact T2
    isplitl [Fo3 T3]
    · isplitl [Fo3]
      · iexact Fo3
      iexists _; iexact T3
    isplitl [Fo4]
    · iexact Fo4
    iexists _; iexact T4
  isplitl [Fl0 Fl0_src Fl1 Fl1_src Fl2 Fl2_src Fl3 Fl3_src Fl4 Fl4_src]
  · isplitl [Fl0 Fl0_src]
    · isplitl [Fl0]
      · iexact Fl0
      iexists _; iexact Fl0_src
    isplitl [Fl1 Fl1_src]
    · isplitl [Fl1]
      · iexact Fl1
      iexists _; iexact Fl1_src
    isplitl [Fl2 Fl2_src]
    · isplitl [Fl2]
      · iexact Fl2
      iexists _; iexact Fl2_src
    isplitl [Fl3 Fl3_src]
    · isplitl [Fl3]
      · iexact Fl3
      iexists _; iexact Fl3_src
    isplitl [Fl4]
    · iexact Fl4
    iexists _; iexact Fl4_src
  iexists _; iexact HW

end Cert.KernelIdeal.Own

end
-- ==== Proof.KernelIdeal.Launch.lean ====
/- The launch: the body's triple at every grid point, and from it what the kernel leaves in memory. -/
module

public import proofs.«01_k».proof.Proof.KernelIdeal.Ring
public import proofs.«01_k».proof.Proof.KernelIdeal.RunA
public import proofs.«01_k».proof.Proof.KernelIdeal.RunB
public import proofs.«01_k».proof.Proof.KernelIdeal.RunC
public import proofs.«01_k».proof.Proof.KernelIdeal.RunD
public import proofs.«01_k».proof.Proof.Gen.KernelIdeal.Points

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The contents the launch finds. -/
abbrev V (c : Dev nD) (b : Ref sig .tc) : Buf (Elt F) ((c : Thread nD τ).loc b) := m ((c : Thread nD τ).loc b)

set_option maxHeartbeats 800000 in
/-- The program is the kernel's call alone. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- What the kernel leaves in the result. -/
def resultOf (c : Dev nD) : BufOf (F := F) c resM := resOf (V m c main_arg0) (V m c main_arg2) (V m c main_arg3)

/-! ## The staged tables -/

/-- A staged window's block at a point. -/
def blockOf (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Both tables are staged whole. -/
theorem block_groups (c : Dev nD) (t : Fin cfg0.N) : (blockOf m c 0 t : S8x2.Idx → Elt F .f32) = V m c main_arg2 := by
  funext x
  refine congrArg (V m c main_arg2) ?_
  funext a; refine Fin.ext ?_
  show ((win0_0.rect t).emb x a).val = (x a).val
  rw [Rect.emb_apply]
  fin_cases a <;> simp [Pipeline.Window.rect, Rect.unit] <;> rfl
theorem block_parities (c : Dev nD) (t : Fin cfg0.N) : (blockOf m c 1 t : S2x2.Idx → Elt F .f32) = V m c main_arg3 := by
  funext x
  refine congrArg (V m c main_arg3) ?_
  funext a; refine Fin.ext ?_
  show ((win0_1.rect t).emb x a).val = (x a).val
  rw [Rect.emb_apply]
  fin_cases a <;> simp [Pipeline.Window.rect, Rect.unit] <;> rfl

theorem staged_groups {c : Dev nD} (dat : Dat τ (Elt F) Unit ℕ (Pipeline.UD sig nD τ) ℕ cfg0 c) (hA : dat.A 0 = V m c (Pipeline.arrRef spec0 0))
    (hafter : ∀ t, dat.after 0 t = blockOf m c 0 t) (t : Fin cfg0.N) (d) : dat.before 0 t d = blockOf m c 0 t :=
  (dat.before_in_eq_fetched 0 rfl (fun _ => rfl) (fun _ _ _ => rfl) (fun t => by rw [hafter]; unfold Dat.blockOf blockOf; rw [hA]; try rfl) t d).trans
    (by unfold Dat.fetched Dat.blockOf blockOf; rw [hA]; try rfl)
theorem staged_parities {c : Dev nD} (dat : Dat τ (Elt F) Unit ℕ (Pipeline.UD sig nD τ) ℕ cfg0 c) (hA : dat.A 1 = V m c (Pipeline.arrRef spec0 1))
    (hafter : ∀ t, dat.after 1 t = blockOf m c 1 t) (t : Fin cfg0.N) (d) : dat.before 1 t d = blockOf m c 1 t :=
  (dat.before_in_eq_fetched 1 rfl (fun _ => rfl) (fun _ _ _ => rfl) (fun t => by rw [hafter]; unfold Dat.blockOf blockOf; rw [hA]; try rfl) t d).trans
    (by unfold Dat.fetched Dat.blockOf blockOf; rw [hA]; try rfl)

/-! ## What the launch hands the kernel beside the windows -/

/-- The kernel's own cells. -/
abbrev ownCells : Fin 20 → SemLoc sig := fun j => (![SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21] : Fin 20 → SemLoc sig) j
theorem ownCells_facts : Pipeline.OwnSemFacts spec0 ownCells := by decide
theorem ownCells_list (c : Dev nD) :
    (Pipeline.ownSems0 (Ix := Unit) (Name := ℕ) (U := Pipeline.UD sig nD τ) (Lvl := ℕ) (Val := Elt F) (τ := τ) ownCells c : sProp 𝕄)
      = iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0) := by
  rw [Pipeline.ownSems0_eq_of_list c ownCells [0, 1, 2, 3, 4, 5, 6, 7, 8, 9, 10, 11, 12, 13, 14, 15, 16, 17, 18, 19] (by decide) (by decide)]; rfl
/-- The array the kernel reads by copies of its own, and the one it writes so. -/
def readRefs : Finset (Ref sig .tc) := {main_arg0}
def writtenRefs : Finset (Ref sig .tc) := {main_v0}
theorem readRefs_sub : readRefs ⊆ Pipeline.restRefs sig spec0 := by decide
theorem writtenRefs_sub : writtenRefs ⊆ Pipeline.restRefs sig spec0 \ readRefs := by decide
theorem readRefs_list (c : Dev nD) :
    (bigSep readRefs (fun b => ((c : Thread nD τ).loc b) ↦{fullShare} V m c b) : sProp 𝕄) = iprop(((c : Thread nD τ).loc main_arg0) ↦{fullShare} V m c main_arg0) := by
  rw [BI.bigSep_eq_bigSepL_of_eq [main_arg0] (by decide) (by decide)]; rfl
theorem writtenRefs_list (c : Dev nD) (W : (b : Ref sig .tc) → Buf (Elt F) ((c : Thread nD τ).loc b)) :
    (Pipeline.routed writtenRefs c W : sProp 𝕄) = iprop(((c : Thread nD τ).loc main_v0) ↦{fullShare} W main_v0) := by
  unfold Pipeline.routed; rw [BI.bigSep_eq_bigSepL_of_eq [main_v0] (by decide) (by decide)]; rfl

/-- The contents the kernel leaves: the result's, the rest as found. -/
def Gend (c : Dev nD) (b : Ref sig .tc) : Buf (Elt F) ((c : Thread nD τ).loc b) :=
  if h : b = main_v0 then h ▸ resultOf m c else V m c b
theorem Gend_v0 (c : Dev nD) : Gend m c main_v0 = resultOf m c := by unfold Gend; rw [dif_pos rfl]

theorem handed_eq (c : Dev nD) (W : (c : Dev nD) → (b : Ref sig .tc) → Buf (Elt F) ((c : Thread nD τ).loc b)) :
    (Pipeline.ΦDRG ownCells spec0 readRefs writtenRefs (V m) W c : sProp 𝕄)
      = iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))
        ∗ (∃ r, prngReg c r) ∗ (semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0)
        ∗ (((c : Thread nD τ).loc main_arg0) ↦{fullShare} V m c main_arg0) ∗ (((c : Thread nD τ).loc main_v0) ↦{fullShare} W c main_v0)) := by
  rw [Pipeline.ΦDRG_eq, scopedRest0_eq, ownCells_list, readRefs_list, writtenRefs_list]

/-! ## The proof data -/

/-- Before point `k`: the generator's register at some state, and the rings. -/
def Phi (c : Dev nD) (k : ℕ) : sProp 𝕄 := iprop((∃ r, prngReg c r) ∗ ringAt c (V m c main_arg0) (V m c main_v0) (resultOf m c) k)

def dats (_ : Fin 1) (c : Dev nD) : Dat τ (Elt F) Unit ℕ (Pipeline.UD sig nD τ) ℕ cfg0 c where
  A w := V m c (Pipeline.arrRef spec0 w)
  after w t := match w with
    | ⟨0, _⟩ => blockOf m c 0 t
    | ⟨1, _⟩ => blockOf m c 1 t
  Φ t := Phi m c t.val
  q _ := fullShare
  owed _ := 0

theorem dats_A (c : Dev nD) (w : Fin cfg0.W) : (dats m 0 c).A w = V m c (Pipeline.arrRef spec0 w) := by
  dsimp only [dats]
theorem dats_start (c : Dev nD) (t : Fin cfg0.N) : (dats m 0 c).Φ t.castSucc = Phi m c t.val := by
  dsimp only [dats]; simp only [Fin.val_castSucc]
theorem dats_end (c : Dev nD) (t : Fin cfg0.N) : (dats m 0 c).Φ t.succ = Phi m c (t.val + 1) := by
  dsimp only [dats]; simp only [Fin.val_succ]
theorem dats_after0 (c : Dev nD) (t : Fin cfg0.N) : (dats m 0 c).after 0 t = blockOf m c 0 t := by dsimp only [dats]
theorem dats_after1 (c : Dev nD) (t : Fin cfg0.N) : (dats m 0 c).after 1 t = blockOf m c 1 t := by dsimp only [dats]
theorem dats_before0 (c : Dev nD) (t : Fin cfg0.N) (d) : (dats m 0 c).before 0 t d = blockOf m c 0 t :=
  staged_groups m (dats m 0 c) (dats_A m c 0) (dats_after0 m c) t d
theorem dats_before1 (c : Dev nD) (t : Fin cfg0.N) (d) : (dats m 0 c).before 1 t d = blockOf m c 1 t :=
  staged_parities m (dats m 0 c) (dats_A m c 1) (dats_after1 m c) t d

/-! ## The body at any point -/

abbrev groupsAt (t : Fin cfg0.N) : Memref sig .tc .vmem S8x2 .f32 := win0_0.stage (cfg0.slots t 0)
abbrev paritiesAt (t : Fin cfg0.N) : Memref sig .tc .vmem S2x2 .f32 := win0_1.stage (cfg0.slots t 1)

def bodyPre (c : Dev nD) (t : Fin cfg0.N) : sProp 𝕄 :=
  iprop((dats m 0 c).Φ t.castSucc ∗ (dats m 0 c).owesAt () t.castSucc
    ∗ (∃ d, owns (c : Thread nD τ) (groupsAt t) fullShare ((dats m 0 c).before 0 t d))
    ∗ (∃ d, owns (c : Thread nD τ) (paritiesAt t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (groupsAt t) fullShare ((dats m 0 c).after 0 t)
    ∗ owns (c : Thread nD τ) (paritiesAt t) fullShare ((dats m 0 c).after 1 t))

set_option maxHeartbeats 1600000 in
/-- The body's triple at any point, by the point's case: first, second, middle or last. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [dats_before0, dats_before1]
  rw [dats_after0, dats_after1]
  rw [dats_start m c t, dats_end m c t]
  unfold Dat.owesAt Pipeline.owesWithin
  rw [show (dats m 0 c).owed t.castSucc = 0 from rfl, show (dats m 0 c).owed t.succ = 0 from rfl]
  unfold Phi
  have hN : t.val < 10 := lt_of_lt_of_eq t.isLt (show cfg0.N = 10 from N_0)
  have hG : resultOf m c = resOf (V m c main_arg0) (blockOf m c 0 t) (blockOf m c 1 t) := by
    rw [show (blockOf m c 0 t : S8x2.Idx → Elt F .f32) = V m c main_arg2 from block_groups m c t, show (blockOf m c 1 t : S2x2.Idx → Elt F .f32) = V m c main_arg3 from block_parities m c t]; rfl
  rcases (show t.val = 0 ∨ t.val = 1 ∨ (2 ≤ t.val ∧ t.val < 9) ∨ t.val = 9 by omega) with ht | ht | ⟨h2, h9⟩ | ht
  · rw [ringAt_A c (V m c main_arg0) (V m c main_v0) (resultOf m c) t.val ht, ringAt_A' c (V m c main_arg0) (V m c main_v0) (resultOf m c) t.val ht]
    iintro ⟨⟨Hg, Ci, Fi, Cn, Fn, ⟨P, Ah⟩, Fo, Fp⟩, ⟨%W, -, HW⟩, ⟨%d0, H0⟩, ⟨%d1, H1⟩⟩
    iapply (runA c (V m c main_arg0) (V m c main_v0) (resultOf m c) t _ _ _ _ (blockOf m c 0 t) (blockOf m c 1 t) hG ht W _)
    isplitl [H0]; · iexact H0
    isplitl [H1]; · iexact H1
    isplitl [Ci]; · iexact Ci
    isplitl [Fi]; · iexact Fi
    isplitl [Cn]; · iexact Cn
    isplitl [Fn]; · iexact Fn
    isplitl [P]; · iexact P
    isplitl [Fo]; · iexact Fo
    isplitl [HW]; · iexact HW
    iintro ⟨H0, H1, In, Ck, Fk, Ok, ⟨%W', HW'⟩⟩
    isplitl [Hg In Ck Fk Ah Ok Fp]
    · isplitl [Hg]; · iexact Hg
      isplitl [In]; · iexact In
      isplitl [Ck]; · iexact Ck
      isplitl [Fk]; · iexact Fk
      isplitl [Ah]; · iexact Ah
      isplitl [Ok]; · iexact Ok
      iexact Fp
    isplitl [HW']
    · iexists W'; isplitr
      · ipureintro; exact fun _ _ => Or.inl trivial
      iexact HW'
    isplitl [H0]; · iexact H0
    iexact H1
  · rw [ringAt_B c (V m c main_arg0) (V m c main_v0) (resultOf m c) t.val ht, ringAt_B' c (V m c main_arg0) (V m c main_v0) (resultOf m c) t.val ht, behind_zero]
    iintro ⟨⟨Hg, Ik, Cn, Fn, ⟨P, Ah⟩, On, Fo⟩, ⟨%W, -, HW⟩, ⟨%d0, H0⟩, ⟨%d1, H1⟩⟩
    iapply (runB c (V m c main_arg0) (V m c main_v0) (resultOf m c) t _ _ _ _ (blockOf m c 0 t) (blockOf m c 1 t) hG ht W _)
    isplitl [H0]; · iexact H0
    isplitl [H1]; · iexact H1
    isplitl [Ik]; · iexact Ik
    isplitl [Cn]; · iexact Cn
    isplitl [Fn]; · iexact Fn
    isplitl [P]; · iexact P
    isplitl [Fo]; · iexact Fo
    isplitl [HW]; · iexact HW
    iintro ⟨H0, H1, In, Ck, Fk, Ok, ⟨%W', HW'⟩⟩
    isplitl [Hg In Ck Fk Ah On Ok]
    · isplitl [Hg]; · iexact Hg
      isplitl [In]; · iexact In
      isplitl [Ck]; · iexact Ck
      isplitl [Fk]; · iexact Fk
      isplitl [Ah]; · iexact Ah
      isplitl [On]; · iexact On
      isplitl [Ok]; · iexact Ok
      iempintro
    isplitl [HW']
    · iexists W'; isplitr
      · ipureintro; exact fun _ _ => Or.inl trivial
      iexact HW'
    isplitl [H0]; · iexact H0
    iexact H1
  · rw [ringAt_C c (V m c main_arg0) (V m c main_v0) (resultOf m c) t.val h2 (by omega), ringAt_C' c (V m c main_arg0) (V m c main_v0) (resultOf m c) t.val h2 h9]
    iintro ⟨⟨Hg, Ik, Cn, Fn, ⟨P, Ah⟩, Om, On, Be⟩, ⟨%W, -, HW⟩, ⟨%d0, H0⟩, ⟨%d1, H1⟩⟩
    iapply (runC c (V m c main_arg0) (V m c main_v0) (resultOf m c) t _ _ _ _ (blockOf m c 0 t) (blockOf m c 1 t) hG h2 h9 W _)
    isplitl [H0]; · iexact H0
    isplitl [H1]; · iexact H1
    isplitl [Ik]; · iexact Ik
    isplitl [Cn]; · iexact Cn
    isplitl [Fn]; · iexact Fn
    isplitl [P]; · iexact P
    isplitl [Om]; · iexact Om
    isplitl [HW]; · iexact HW
    iintro ⟨H0, H1, In, Ck, Fk, Pm, Ok, ⟨%W', HW'⟩⟩
    isplitl [Hg In Ck Fk Ah On Ok Pm Be]
    · isplitl [Hg]; · iexact Hg
      isplitl [In]; · iexact In
      isplitl [Ck]; · iexact Ck
      isplitl [Fk]; · iexact Fk
      isplitl [Ah]; · iexact Ah
      isplitl [On]; · iexact On
      isplitl [Ok]; · iexact Ok
      isplitl [Pm]; · iexact Pm
      iexact Be
    isplitl [HW']
    · iexists W'; isplitr
      · ipureintro; exact fun _ _ => Or.inl trivial
      iexact HW'
    isplitl [H0]; · iexact H0
    iexact H1
  · rw [ringAt_C c (V m c main_arg0) (V m c main_v0) (resultOf m c) t.val (by omega) (by omega), ringAt_D' c (V m c main_arg0) (V m c main_v0) (resultOf m c) t.val ht]
    iintro ⟨⟨Hg, Ik, Cn, Fn, ⟨P, -⟩, Om, On, Be⟩, ⟨%W, -, HW⟩, ⟨%d0, H0⟩, ⟨%d1, H1⟩⟩
    iapply (runD c (V m c main_arg0) (V m c main_v0) (resultOf m c) t _ _ _ _ (blockOf m c 0 t) (blockOf m c 1 t) hG ht W _)
    isplitl [H0]; · iexact H0
    isplitl [H1]; · iexact H1
    isplitl [Ik]; · iexact Ik
    isplitl [P]; · iexact P
    isplitl [Om]; · iexact Om
    isplitl [On]; · iexact On
    isplitl [HW]; · iexact HW
    iintro ⟨H0, H1, Ck, Fk, Pm, Pl, Pk, Fo, Fp, ⟨%W', HW'⟩⟩
    isplitl [Hg Ck Fk Cn Fn Pk Pl Pm Be Fo Fp]
    · isplitl [Hg]; · iexact Hg
      isplitl [Ck]; · iexact Ck
      isplitl [Fk]; · iexact Fk
      isplitl [Cn]; · iexact Cn
      isplitl [Fn]; · iexact Fn
      isplitl [Pk Pl Pm Be]
      · isplitl [Pk]; · iexact Pk
        isplitl [Pl]; · iexact Pl
        isplitl [Pm]; · iexact Pm
        iexact Be
      isplitl [Fo]; · iexact Fo
      iexact Fp
    isplitl [HW']
    · iexists W'; isplitr
      · ipureintro; exact fun _ _ => Or.inl trivial
      iexact HW'
    isplitl [H0]; · iexact H0
    iexact H1

theorem defs₀_row (t : Fin cfg0.N) : defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## Into the rings and out of them -/

theorem hin (c : Dev nD) : Pipeline.ΦDRG ownCells spec0 readRefs writtenRefs (V m) (V m) c ⊢ (dats m 0 c).Φ 0 := by
  rw [handed_eq, show (dats m 0 c).Φ 0 = Phi m c 0 from rfl]
  unfold Phi ringAt
  rw [if_pos rfl]
  unfold ringFirst inCells inFreeSlot outFree five
  rw [slotAt_zero, slotAt_one, ahead_zero]
  simp only [inCell_0_0, inCell_0_1, inCell_0_2, inCell_0_3, inCell_0_4, inCell_1_0, inCell_1_1, inCell_1_2, inCell_1_3, inCell_1_4, outCell_0_0, outCell_0_1, outCell_0_2, outCell_0_3, outCell_0_4, outCell_1_0, outCell_1_1, outCell_1_2, outCell_1_3, outCell_1_4]
  iintro ⟨⟨HA, HB⟩, Hg, ⟨Q2, Q3, Q4, Q5, Q6, Q7, Q8, Q9, Q10, Q11, Q12, Q13, Q14, Q15, Q16, Q17, Q18, Q19, Q20, Q21⟩, Hx, Hr⟩
  ihave HA' := (in_tiles (F := F) c) $$ HA
  ihave HB' := (out_tiles (F := F) c) $$ HB
  ihave Hx' := (whole_shares c (V m c main_arg0)).1 $$ Hx
  icases HA' with ⟨⟨A0, A1, A2, A3, A4⟩, ⟨A5, A6, A7, A8, A9⟩⟩
  icases HB' with ⟨⟨B0, B1, B2, B3, B4⟩, ⟨B5, B6, B7, B8, B9⟩⟩
  icases Hx' with ⟨⟨X0, X1, X2, X3, X4⟩, ⟨X5, X6, X7, X8, X9⟩⟩
  isplitl [Hg]; · iexact Hg
  isplitl [Q2 Q3 Q4 Q5 Q6]
  · isplitl [Q2]
    · iexact Q2
    isplitl [Q3]
    · iexact Q3
    isplitl [Q4]
    · iexact Q4
    isplitl [Q5]
    · iexact Q5
    iexact Q6
  isplitl [A0 X0 A1 X1 A2 X2 A3 X3 A4 X4]
  · isplitl [A0 X0]
    · isplitl [A0]
      · iexact A0
      iexact X0
    isplitl [A1 X1]
    · isplitl [A1]
      · iexact A1
      iexact X1
    isplitl [A2 X2]
    · isplitl [A2]
      · iexact A2
      iexact X2
    isplitl [A3 X3]
    · isplitl [A3]
      · iexact A3
      iexact X3
    isplitl [A4]
    · iexact A4
    iexact X4
  isplitl [Q7 Q8 Q9 Q10 Q11]
  · isplitl [Q7]
    · iexact Q7
    isplitl [Q8]
    · iexact Q8
    isplitl [Q9]
    · iexact Q9
    isplitl [Q10]
    · iexact Q10
    iexact Q11
  isplitl [A5 X5 A6 X6 A7 X7 A8 X8 A9 X9]
  · isplitl [A5 X5]
    · isplitl [A5]
      · iexact A5
      iexact X5
    isplitl [A6 X6]
    · isplitl [A6]
      · iexact A6
      iexact X6
    isplitl [A7 X7]
    · isplitl [A7]
      · iexact A7
      iexact X7
    isplitl [A8 X8]
    · isplitl [A8]
      · iexact A8
      iexact X8
    isplitl [A9]
    · iexact A9
    iexact X9
  isplitl [Hr]
  · iexact Hr
  isplitl [Q12 B0 Q13 B1 Q14 B2 Q15 B3 Q16 B4]
  · isplitl [Q12 B0]
    · isplitl [Q12]
      · iexact Q12
      iexact B0
    isplitl [Q13 B1]
    · isplitl [Q13]
      · iexact Q13
      iexact B1
    isplitl [Q14 B2]
    · isplitl [Q14]
      · iexact Q14
      iexact B2
    isplitl [Q15 B3]
    · isplitl [Q15]
      · iexact Q15
      iexact B3
    isplitl [Q16]
    · iexact Q16
    iexact B4
  isplitl [Q17 B5]
  · isplitl [Q17]
    · iexact Q17
    iexact B5
  isplitl [Q18 B6]
  · isplitl [Q18]
    · iexact Q18
    iexact B6
  isplitl [Q19 B7]
  · isplitl [Q19]
    · iexact Q19
    iexact B7
  isplitl [Q20 B8]
  · isplitl [Q20]
    · iexact Q20
    iexact B8
  isplitl [Q21]
  · iexact Q21
  iexact B9

theorem hout (c : Dev nD) : (dats m 0 c).Φ (Fin.last cfg0.N) ⊢ Pipeline.ΦDRG ownCells spec0 readRefs writtenRefs (V m) (Gend m) c := by
  rw [handed_eq, show (dats m 0 c).Φ (Fin.last cfg0.N) = Phi m c grid0.N from rfl, show grid0.N = 10 from N_0, Gend_v0]
  unfold Phi ringAt
  rw [if_neg (by decide), if_neg (by decide), if_neg (by decide)]
  unfold ringLast inCells inFreeSlot outFree five
  rw [slotAt_nine, slotAt_ten, behind_ten]
  simp only [inCell_0_0, inCell_0_1, inCell_0_2, inCell_0_3, inCell_0_4, inCell_1_0, inCell_1_1, inCell_1_2, inCell_1_3, inCell_1_4, outCell_0_0, outCell_0_1, outCell_0_2, outCell_0_3, outCell_0_4, outCell_1_0, outCell_1_1, outCell_1_2, outCell_1_3, outCell_1_4]
  iintro ⟨Hg, ⟨Q7, Q8, Q9, Q10, Q11⟩, ⟨⟨A5, X5⟩, ⟨A6, X6⟩, ⟨A7, X7⟩, ⟨A8, X8⟩, ⟨A9, X9⟩⟩, ⟨Q2, Q3, Q4, Q5, Q6⟩, ⟨⟨A0, X0⟩, ⟨A1, X1⟩, ⟨A2, X2⟩, ⟨A3, X3⟩, ⟨A4, X4⟩⟩, Hr, ⟨⟨Q17, B5⟩, ⟨Q18, B6⟩, ⟨Q19, B7⟩, ⟨Q20, B8⟩, ⟨Q21, B9⟩⟩, ⟨⟨Q12, B0⟩, ⟨Q13, B1⟩, ⟨Q14, B2⟩, ⟨Q15, B3⟩, ⟨Q16, B4⟩⟩⟩
  isplitl [A0 A1 A2 A3 A4 A5 A6 A7 A8 A9 B0 B1 B2 B3 B4 B5 B6 B7 B8 B9]
  · isplitl [A0 A1 A2 A3 A4 A5 A6 A7 A8 A9]
    · iapply (in_untile (F := F) c)
      isplitl [A0 A1 A2 A3 A4]
      · isplitl [A0]
        · iexact A0
        isplitl [A1]
        · iexact A1
        isplitl [A2]
        · iexact A2
        isplitl [A3]
        · iexact A3
        iexact A4
      isplitl [A5]
      · iexact A5
      isplitl [A6]
      · iexact A6
      isplitl [A7]
      · iexact A7
      isplitl [A8]
      · iexact A8
      iexact A9
    iapply (out_untile (F := F) c)
    isplitl [B0 B1 B2 B3 B4]
    · isplitl [B0]
      · iexact B0
      isplitl [B1]
      · iexact B1
      isplitl [B2]
      · iexact B2
      isplitl [B3]
      · iexact B3
      iexact B4
    isplitl [B5]
    · iexact B5
    isplitl [B6]
    · iexact B6
    isplitl [B7]
    · iexact B7
    isplitl [B8]
    · iexact B8
    iexact B9
  isplitl [Hg]; · iexact Hg
  isplitl [Q2 Q3 Q4 Q5 Q6 Q7 Q8 Q9 Q10 Q11 Q12 Q13 Q14 Q15 Q16 Q17 Q18 Q19 Q20 Q21]
  · isplitl [Q2]
    · iexact Q2
    isplitl [Q3]
    · iexact Q3
    isplitl [Q4]
    · iexact Q4
    isplitl [Q5]
    · iexact Q5
    isplitl [Q6]
    · iexact Q6
    isplitl [Q7]
    · iexact Q7
    isplitl [Q8]
    · iexact Q8
    isplitl [Q9]
    · iexact Q9
    isplitl [Q10]
    · iexact Q10
    isplitl [Q11]
    · iexact Q11
    isplitl [Q12]
    · iexact Q12
    isplitl [Q13]
    · iexact Q13
    isplitl [Q14]
    · iexact Q14
    isplitl [Q15]
    · iexact Q15
    isplitl [Q16]
    · iexact Q16
    isplitl [Q17]
    · iexact Q17
    isplitl [Q18]
    · iexact Q18
    isplitl [Q19]
    · iexact Q19
    isplitl [Q20]
    · iexact Q20
    iexact Q21
  isplitl [X0 X1 X2 X3 X4 X5 X6 X7 X8 X9]
  · iapply (whole_shares c (V m c main_arg0)).2
    isplitl [X0 X1 X2 X3 X4]
    · isplitl [X0]
      · iexact X0
      isplitl [X1]
      · iexact X1
      isplitl [X2]
      · iexact X2
      isplitl [X3]
      · iexact X3
      iexact X4
    isplitl [X5]
    · iexact X5
    isplitl [X6]
    · iexact X6
    isplitl [X7]
    · iexact X7
    isplitl [X8]
    · iexact X8
    iexact X9
  iexact Hr

/-! ## The run -/

set_option backward.isDefEq.respectTransparency.types false in
theorem run_kernel : θ_run defs (onTc (τ := τ) (main (F := F))) (s₀ m ρ) (fun r => (Pipeline.FramePostRG cfgs (dats m) 0 writtenRefs (V m) (Gend m)) r ∧ r.2.sem = fun _ => 0) :=
  Pipeline.θ_run_frame_dmaRG (Q' := _) cfgs (dats m) (0 : Fin 1) launch0 ownCells defs₀ Variants.none ownCells_facts readRefs writtenRefs readRefs_sub writtenRefs_sub m ρ main
    (hbody := fun c => (body_obligation m c).loose) (hshare := fun c => (dats m 0 c).share_full fun _ => rfl)
    (howed := fun _ _ => rfl) (V := V m) (hmain := hmain m Variants.none) (hA := dats_A m) (G := Gend m)
    (hin := hin m) (hout := hout m)

/-- Every run ends with the arguments as they were, the result at `resultOf`, and every counter at zero. -/
theorem ends : θ_run defs (onTc (τ := τ) (main (F := F))) ⟨m, fun _ => 0, ρ⟩ (fun r => (∀ c : Dev nD,
      r.2.mem ((c.tc : Thread nD τ).loc main_v0) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1.2 c main_v0 (by decide)).trans (Gend_v0 m c),
      (h.1.1 c).2 main_arg0 (Finset.mem_sdiff.mpr ⟨Pipeline.mem_restRefs_of main_arg0 (by decide) (by decide), by decide⟩),
      (h.1.1 c).2 main_arg1 (Finset.mem_sdiff.mpr ⟨Pipeline.mem_restRefs_of main_arg1 (by decide) (by decide), by decide⟩),
      ((h.1.1 c).1 0).trans (((dats m 0 c).arrAt_in 0 rfl _).trans (dats_A m c 0)),
      ((h.1.1 c).1 1).trans (((dats m 0 c).arrAt_in 1 rfl _).trans (dats_A m c 1))⟩, h.2⟩) (run_kernel m ρ)

end Cert.KernelIdeal.Own

end
-- ==== Proof.Reference.Rows.lean ====
/- The reference's result, index by index: each row taken from a table is the row its index names. -/
module

public import proofs.«01_k».proof.Proof.Gen.ReferenceIdeal
public import Idealize.ShloMosaic.Lib.Routing.Words
public import Idealize.ShloMosaic.Lib.Routing.Ops
public import Idealize.ShloMosaic.Lib.ReduceAll
public import Idealize.ShloMosaic.Lib.Pointwise

@[expose] public section

noncomputable section

namespace Cert.ReferenceIdeal.Own

open Cert.ReferenceIdeal Cert.ReferenceIdeal.Gen
open Idealize.ShloMosaic Idealize.ShloMosaic.TcCoe Idealize.ShloMosaic.WordCmp
open Idealize.ShloMosaic.Routing (pyRem pyDiv pyRem_ap pyDiv_ap bc0 bcCol addi_ap gather_row)

variable {F : FTy → Type} [FloatOps F]

/-! ## Which rows -/

/-- The nodes' numbers, and their parities. -/
def nodes : IVec S100000 32 := iotaInDim S100000 32 0
def parities : IVec S100000 32 := pyRem bcast_S_S100000 nodes (id (constantI S_ 32 2#32))

/-- The group each node's row is taken from. -/
def groups : IVec S100000 32 :=
  select (andi (cmpi .slt nodes (broadcastInDim S100000 ![] bcast_S_S100000 (constantI S_ 32 8000#32)))
      (cmpi .slt (pyRem bcast_S_S100000 nodes (id (constantI S_ 32 1000#32))) (broadcastInDim S100000 ![] bcast_S_S100000 (constantI S_ 32 8#32))))
    (pyDiv bcast_S_S100000 nodes (id (constantI S_ 32 1000#32))) (broadcastInDim S100000 ![] bcast_S_S100000 (id (constantI S_ 32 0#32)))

theorem nodes_at (n : Fin 100000) : nodes (ValueIdx.ix1 n) = BitVec.ofNat 32 n.val := rfl
theorem parities_at (n : Fin 100000) : parities (ValueIdx.ix1 n) = BitVec.ofNat 32 (n.val % 2) :=
  pyRem_ap _ _ _ _ (nodes_at n) rfl (by have := n.isLt; omega) (by decide) (by decide)
theorem groups_at (n : Fin 100000) : groups (ValueIdx.ix1 n) = BitVec.ofNat 32 (if n.val < 8000 ∧ n.val % 1000 < 8 then n.val / 1000 else 0) := by
  have hn := n.isLt
  unfold groups
  rw [select_at, andi_at, cmpi_at, cmpi_at, bc0, bc0, bc0, nodes_at n,
    pyRem_ap (a := n.val) (b := 1000) _ _ _ _ (nodes_at n) rfl (by omega) (by decide) (by decide),
    pyDiv_ap (a := n.val) (b := 1000) _ _ _ _ (nodes_at n) rfl (by omega) (by decide) (by decide)]
  show Scalar.select (IntOp.andi (IntOp.cmpi .slt (BitVec.ofNat 32 n.val) (BitVec.ofNat 32 8000)) (IntOp.cmpi .slt (BitVec.ofNat 32 (n.val % 1000)) (BitVec.ofNat 32 8))) (BitVec.ofNat 32 (n.val / 1000)) (BitVec.ofNat 32 0) = _
  rw [cmpi_slt_ofNat (w := 32) (show n.val < 2 ^ 31 by omega) (by decide), cmpi_slt_ofNat (w := 32) (show n.val % 1000 < 2 ^ 31 by omega) (by decide),
    andi_ofBool, select_ofBool, ← Bool.decide_and, apply_ite (BitVec.ofNat 32)]
  simp only [decide_eq_true_eq]

/-! ## Taking them -/

/-- A list of row numbers as a column, those below zero counted from the table's end. -/
def column (size : BitVec 32) (i : IVec S100000 32) : IVec S100000x1 32 :=
  broadcastInDim S100000x1 ![0] bcast_S100000_S100000x1_0
    (select (cmpi .slt i (broadcastInDim S100000 ![] bcast_S_S100000 (constantI S_ 32 0#32)))
      (addi i (broadcastInDim S100000 ![] bcast_S_S100000 (constantI S_ 32 size))) i)

/-- Whether each row number is within the table. -/
def within (last : BitVec 32) (k : IVec S100000x1 32) : IVec S100000 1 :=
  Host.reduce IntOp.andi (andi (cmpi .sge k (broadcastInDim S100000x1 ![] bcast_S_S100000x1 (constantI S_ 32 0#32)))
      (cmpi .sle k (broadcastInDim S100000x1 ![0, 1] bcast_S1x1_S100000x1_0_1 (broadcastInDim S1x1 ![1] bcast_S1_S1x1_1 (constantI S1 32 last)))))
    (constantI S_ 1 1#1) reducesTo_S100000x1_S100000_d1 h_S_

/-- The rows of a table that a list of row numbers names; a number outside the table names a row of one fixed value. -/
def rows {s : Shape} (d : GatherDims s S100000x1 S100000x2) (size last : BitVec 32) (x : s.Idx → Elt F .f32) (i : IVec S100000 32) : S100000x2.Idx → Elt F .f32 :=
  select (broadcastInDim S100000x2 ![0] bcast_S100000_S100000x2_0 (within last (column size i)))
    (Host.gather d x (column size i)) (broadcastInDim S100000x2 ![] bcast_S_S100000x2 (constant S_ .f32 0x7FC00000#32))

theorem column_at (size : BitVec 32) (i : IVec S100000 32) (n : Fin 100000) {a : ℕ} (ha : a < 2 ^ 31) (hi : i (ValueIdx.ix1 n) = BitVec.ofNat 32 a) :
    column size i (ValueIdx.ix2 n (0 : Fin 1)) = BitVec.ofNat 32 a := by
  unfold column
  rw [bcCol, select_at, cmpi_at, bc0, constantI_at, hi, show (0#32 : BitVec 32) = BitVec.ofNat 32 0 from rfl,
    cmpi_slt_ofNat (w := 32) ha (by decide), select_decide, if_neg (by omega)]

theorem within_all (size last : BitVec 32) (i : IVec S100000 32) (f : Fin 100000 → ℕ) {b : ℕ} (hb : b < 2 ^ 31) (hl : last = BitVec.ofNat 32 b)
    (hf : ∀ n, f n ≤ b) (hi : ∀ n, i (ValueIdx.ix1 n) = BitVec.ofNat 32 (f n)) (j : S100000.Idx) : within last (column size i) j = 1#1 := by
  refine Host.reduce_andi_one _ _ _ _ j rfl fun y => ?_
  obtain ⟨n, rfl⟩ : ∃ n : Fin 100000, y = ValueIdx.ix2 n (0 : Fin 1) := ⟨y 0, by
    funext a; fin_cases a
    · rfl
    · exact Fin.ext (by have := (y 1).isLt; show (y 1).val = 0; exact Nat.lt_one_iff.1 this)⟩
  have h1 : f n < 2 ^ 31 := lt_of_le_of_lt (hf _) hb
  rw [andi_at, cmpi_at, cmpi_at, column_at size i n h1 (hi _)]
  show IntOp.andi (IntOp.cmpi .sge (BitVec.ofNat 32 (f n)) (BitVec.ofNat 32 0)) (IntOp.cmpi .sle (BitVec.ofNat 32 (f n)) last) = 1#1
  rw [hl, cmpi_sge_ofNat (w := 32) h1 (by decide), cmpi_sle_ofNat (w := 32) h1 hb, andi_ofBool]
  simp [hf n]

/-- Where every row number is within the table, row `n` taken is the table's row of number `f n`. -/
theorem rows_at {nb : ℕ} (d : GatherDims ⟨2, ![nb, 2]⟩ S100000x1 S100000x2) (hoff : d.offsetDims = [1])
    (hcoll : d.collapsedSliceDims = [0]) (hob : d.operandBatchingDims = []) (hsim : d.startIndexMap = [0]) (hivd : d.indexVectorDim = 1)
    (size last : BitVec 32) (x : (⟨2, ![nb, 2]⟩ : Shape).Idx → Elt F .f32) (i : IVec S100000 32) (f : Fin 100000 → Fin nb) (hnb : nb < 2 ^ 31)
    (hl : last = BitVec.ofNat 32 (nb - 1)) (hi : ∀ n, i (ValueIdx.ix1 n) = BitVec.ofNat 32 (f n).val) (n : Fin 100000) (y : Fin 2) :
    rows d size last x i (ValueIdx.ix2 n y) = x (ValueIdx.ix2 (f n) y) := by
  unfold rows
  rw [select_at, show broadcastInDim S100000x2 ![0] bcast_S100000_S100000x2_0 (within last (column size i)) (ValueIdx.ix2 n y) = 1#1 from
      within_all size last i (fun n => (f n).val) (show nb - 1 < 2 ^ 31 by omega) hl (fun n => by have := (f n).isLt; show (f n).val ≤ nb - 1; omega) hi _, select_one]
  exact gather_row d hoff hcoll hob hsim hivd x _ n y (f n) (column_at size i n (by have := (f n).isLt; omega) (hi n)) hnb

/-! ## The result -/

/-- The reference's result: the input's columns, the group's row and the parity's row. -/
def joined (X : S100000x128.Idx → Elt F .f32) (g : S8x2.Idx → Elt F .f32) (h : S2x2.Idx → Elt F .f32) : S100000x132.Idx → Elt F .f32 :=
  concatenate S100000x132 1 [⟨S100000x128, X⟩, ⟨S100000x2, rows gather_S8x2_S100000x1_S100000x2_1_0_n_n_0_1_12 8#32 7#32 g groups⟩,
    ⟨S100000x2, rows gather_S2x2_S100000x1_S100000x2_1_0_n_n_0_1_12 2#32 1#32 h parities⟩] concatenates_S100000x128_S100000x2_S100000x2_S100000x132_d1

theorem joined_at (X : S100000x128.Idx → Elt F .f32) (g : S8x2.Idx → Elt F .f32) (h : S2x2.Idx → Elt F .f32) (n : Fin 100000) (k : Fin 132)
    (e : Fin 8) (p : Fin 2) (he : e.val = if n.val < 8000 ∧ n.val % 1000 < 8 then n.val / 1000 else 0) (hp : p.val = n.val % 2) :
    joined X g h (ValueIdx.ix2 n k) = if h1 : k.val < 128 then X (ValueIdx.ix2 n ⟨k.val, h1⟩)
      else if h2 : k.val < 130 then g (ValueIdx.ix2 e ⟨k.val - 128, by omega⟩)
      else h (ValueIdx.ix2 p ⟨k.val - 130, by omega⟩) := by
  have hk := k.isLt
  have hg : ∀ n : Fin 100000, (if n.val < 8000 ∧ n.val % 1000 < 8 then n.val / 1000 else 0) < 8 := fun n => by split <;> omega
  have hG (y : Fin 2) : rows gather_S8x2_S100000x1_S100000x2_1_0_n_n_0_1_12 8#32 7#32 g groups (ValueIdx.ix2 n y) = g (ValueIdx.ix2 e y) := by
    rw [show e = ⟨_, hg n⟩ from Fin.ext he]
    exact rows_at _ rfl rfl rfl rfl rfl _ _ g groups (fun n => ⟨_, hg n⟩) (by decide) rfl groups_at n y
  have hH (y : Fin 2) : rows gather_S2x2_S100000x1_S100000x2_1_0_n_n_0_1_12 2#32 1#32 h parities (ValueIdx.ix2 n y) = h (ValueIdx.ix2 p y) := by
    rw [show p = ⟨n.val % 2, Nat.mod_lt _ (by decide)⟩ from Fin.ext hp]
    exact rows_at _ rfl rfl rfl rfl rfl _ _ h parities (fun n => ⟨n.val % 2, Nat.mod_lt _ (by decide)⟩) (by decide) rfl parities_at n y
  unfold joined
  rw [concatenate_cons_apply, concatenateAt_cons]
  by_cases h1 : k.val < 128
  · rw [dif_pos h1]
    refine (dif_pos (show k.val < 128 from h1)).trans (congrArg X (funext fun a => ?_))
    fin_cases a <;> rfl
  · rw [dif_neg h1]
    refine (dif_neg (show ¬ k.val < 128 from h1)).trans ?_
    rw [concatenateAt_cons]
    by_cases h2 : k.val < 130
    · rw [dif_pos h2]
      refine (dif_pos (show k.val - 128 < 2 by omega)).trans (Eq.trans (congrArg _ (funext fun a => ?_)) (hG ⟨k.val - 128, by omega⟩))
      fin_cases a <;> rfl
    · rw [dif_neg h2]
      refine (dif_neg (show ¬ k.val - 128 < 2 by omega)).trans ?_
      rw [concatenateAt_singleton]
      refine Eq.trans (congrArg _ (funext fun a => ?_)) (hH ⟨k.val - 130, by omega⟩)
      fin_cases a
      · rfl
      · exact Fin.ext (by show k.val - 128 - 2 = k.val - 130; omega)

end Cert.ReferenceIdeal.Own

end
-- ==== Proof.Reference.Result.lean ====
/- What the reference's run leaves in its result is the joined rows, and the rows the kernel leaves are those. -/
module

public import proofs.«01_k».proof.Proof.Reference.Rows
public import proofs.«01_k».proof.Proof.Gen.ReferenceIdeal.Run
public import proofs.«01_k».proof.Proof.KernelIdeal.Spec

@[expose] public section

noncomputable section

namespace Cert.ReferenceIdeal.Own

open Cert.ReferenceIdeal Cert.ReferenceIdeal.Gen
open Idealize.ShloMosaic Idealize.ShloMosaic.TcCoe

variable {F : FTy → Type} [FloatOps F]

set_option maxRecDepth 8192 in
/-- The reference's result is the input's columns, the groups' rows and the parities' rows side by side. -/
theorem result_eq (m : (ℓ : Loc nD τ sig) → Buf (Elt F) ℓ) (c : Dev nD) :
    Value.res_out0 m c = joined (m ((c.tc : Thread nD τ).loc main_arg0)) (m ((c.tc : Thread nD τ).loc main_arg2)) (m ((c.tc : Thread nD τ).loc main_arg3)) := by
  unfold Value.res_out0 Value.res_main_v12 joined rows within column groups parities nodes Idealize.ShloMosaic.Routing.pyRem Idealize.ShloMosaic.Routing.pyDiv Idealize.ShloMosaic.Routing.divGuard
  rfl

/-- Index by index, that is the result the kernel leaves. -/
theorem joined_eq (X : S100000x128.Idx → Elt F .f32) (g : S8x2.Idx → Elt F .f32) (h : S2x2.Idx → Elt F .f32) :
    joined X g h = Cert.KernelIdeal.Own.resOf X g h := by
  funext i
  obtain ⟨n, k, rfl⟩ : ∃ (n : Fin 100000) (k : Fin 132), i = ValueIdx.ix2 n k := ⟨i 0, i 1, by funext a; fin_cases a <;> rfl⟩
  refine (joined_at X g h n k (Cert.KernelIdeal.Own.gid n.val) ⟨n.val % 2, Nat.mod_lt _ (by decide)⟩ rfl rfl).trans ?_
  show _ = Cert.KernelIdeal.Own.entry X g h n (Cert.KernelIdeal.Own.gid n.val) ⟨n.val % 2, Nat.mod_lt _ (by decide)⟩ k
  unfold Cert.KernelIdeal.Own.entry
  by_cases h1 : k.val < 128
  · rw [dif_pos h1, dif_pos h1]
    refine congrArg X (funext fun a => ?_)
    fin_cases a <;> rfl
  · rw [dif_neg h1, dif_neg h1]
    by_cases h2 : k.val < 130
    · rw [dif_pos h2, dif_pos h2]
      refine congrArg g (funext fun a => ?_)
      fin_cases a <;> rfl
    · rw [dif_neg h2, dif_neg h2]
      refine congrArg h (funext fun a => ?_)
      fin_cases a <;> rfl

end Cert.ReferenceIdeal.Own

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Reference.Result
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel ends, on words, with its arguments unchanged and every counter at zero. -/
theorem frame_kernel : Cert.quiescent_Kernel := fun m g _ =>
  (θ_run Cert.Kernel.defs _ _).mono (fun _ h => ⟨fun c => (h.1 c).2, h.2⟩) (Cert.Kernel.Own.ends (F := Bits) m g)

/-- So does it over the extended reals. -/
theorem frame_ideal : Cert.quiescent_KernelIdeal := fun m g _ =>
  (θ_run Cert.KernelIdeal.defs _ _).mono (fun _ h => ⟨fun c => (h.1 c).2, h.2⟩) (Cert.KernelIdeal.Own.ends (F := Ideal) m g)

/-- So does the reference, which has no counter at all. -/
theorem frame_reference : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run (F := Ideal) m g)

/-- Kernel and reference compute the same two results: every node's row with its group's and its parity's rows, and the
    edge attributes as they came. -/
theorem same_results : Cert.algebraic_KernelIdeal_ReferenceIdeal := by
  intro m g m' g' _ hagree
  refine ⟨fun c => Cert.KernelIdeal.Own.resultOf m c, fun c => m ((c.tc : Thread Cert.KernelIdeal.nD Cert.KernelIdeal.τ).loc Cert.KernelIdeal.main_arg1),
    (θ_run Cert.KernelIdeal.defs _ _).mono (fun _ h c => ⟨(h.1 c).1, (h.1 c).2.2.1, (h.1 c).2⟩) (Cert.KernelIdeal.Own.ends (F := Ideal) m g),
    (θ_run Cert.ReferenceIdeal.defs _ _).mono (fun _ h c => ⟨(h c).1.trans ?_, (h c).2.1.trans (hagree c).2.1, (h c).2.2⟩)
      (Cert.ReferenceIdeal.Value.run (F := Ideal) m' g')⟩
  refine (Cert.ReferenceIdeal.Own.result_eq m' c).trans ?_
  rw [(hagree c).1, (hagree c).2.2.1, (hagree c).2.2.2]
  exact Cert.ReferenceIdeal.Own.joined_eq _ _ _

theorem claim : Cert.Claim := ⟨Cert.Kernel.Gen.facts, Cert.KernelIdeal.Gen.facts, Cert.ReferenceIdeal.Gen.facts,
  frame_kernel, frame_ideal, frame_reference, trivial, same_results⟩

end Cert.Proof

end
